-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S16384x8x128 : Shape := ⟨3, ![16384, 8, 128]⟩
abbrev S1024 : Shape := ⟨1, ![1024]⟩
abbrev S4096 : Shape := ⟨1, ![4096]⟩
abbrev S8x8x3 : Shape := ⟨3, ![8, 8, 3]⟩
abbrev S8 : Shape := ⟨1, ![8]⟩
abbrev S16x16x3 : Shape := ⟨3, ![16, 16, 3]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x8x128 .f32) (main_arg1 : FVec F S16384x8x128 .f32) (main_arg2 : IVec S1024 32) (main_arg3 : IVec S4096 32) (main_arg4 : IVec S4096 32) (main_arg5 : FVec F S8x8x3 .f32) (main_arg6 : FVec F S8 .f32) (main_arg7 : FVec F S8x8x3 .f32) (main_arg8 : FVec F S8 .f32) (main_arg9 : FVec F S16x16x3 .f32) (main_arg10 : FVec F S16 .f32) (main_arg11 : FVec F S16 .f32) (main_arg12 : FVec F S_ .f32) : IVec S_ 1 :=
  let main_c : IVec S_ 32 := constantI S_ 32 4#32
  let main_v0 : IVec S1024 32 := broadcastInDim S1024 ![] bcast_S_S1024 main_c
  let main_v1 : IVec S1024 1 := cmpi .eq main_arg2 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 4#32
  let main_v3 : IVec S4096 32 := broadcastInDim S4096 ![] bcast_S_S4096 main_c_1
  let main_v4 : IVec S4096 1 := cmpi .eq main_arg3 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_c_3 : IVec S_ 32 := constantI S_ 32 4#32
  let main_v7 : IVec S4096 32 := broadcastInDim S4096 ![] bcast_S_S4096 main_c_3
  let main_v8 : IVec S4096 1 := cmpi .eq main_arg4 main_v7
  let main_c_4 : IVec S_ 1 := constantI S_ 1 1#1
  let main_v9 : IVec S_ 1 := (fun x v => Host.reduce IntOp.andi x v reducesTo_S4096_S_d0 h_S_) main_v8 main_c_4
  let main_v10 : IVec S_ 1 := andi main_v6 main_v9
  main_v10
-- ==== Kernel.lean ====
abbrev S16384x8x128 : Shape := ⟨3, ![16384, 8, 128]⟩
abbrev S1024 : Shape := ⟨1, ![1024]⟩
abbrev S4096 : Shape := ⟨1, ![4096]⟩
abbrev S8x8x3 : Shape := ⟨3, ![8, 8, 3]⟩
abbrev S8 : Shape := ⟨1, ![8]⟩
abbrev S16x16x3 : Shape := ⟨3, ![16, 16, 3]⟩
abbrev S16 : Shape := ⟨1, ![16]⟩
abbrev S_ : Shape := ⟨0, ![]⟩
abbrev S8x8 : Shape := ⟨2, ![8, 8]⟩
abbrev S8x8x1 : Shape := ⟨3, ![8, 8, 1]⟩
abbrev S8x1x8x1 : Shape := ⟨4, ![8, 1, 8, 1]⟩
abbrev S1x8x1x8 : Shape := ⟨4, ![1, 8, 1, 8]⟩
abbrev S8x8x8x8 : Shape := ⟨4, ![8, 8, 8, 8]⟩
abbrev S64x64 : Shape := ⟨2, ![64, 64]⟩
abbrev S4x4 : Shape := ⟨2, ![4, 4]⟩
abbrev S16x16x1 : Shape := ⟨3, ![16, 16, 1]⟩
abbrev S16x16 : Shape := ⟨2, ![16, 16]⟩
abbrev S4x1x4x1 : Shape := ⟨4, ![4, 1, 4, 1]⟩
abbrev S1x16x1x16 : Shape := ⟨4, ![1, 16, 1, 16]⟩
abbrev S4x16x4x16 : Shape := ⟨4, ![4, 16, 4, 16]⟩
abbrev S8x1 : Shape := ⟨2, ![8, 1]⟩
abbrev S16x1 : Shape := ⟨2, ![16, 1]⟩
abbrev S1 : Shape := ⟨1, ![1]⟩
abbrev S16x1x256 : Shape := ⟨3, ![16, 1, 256]⟩
abbrev S1024x8x128 : Shape := ⟨3, ![1024, 8, 128]⟩
abbrev S1x1x256 : Shape := ⟨3, ![1, 1, 256]⟩
abbrev S1024x8x1 : Shape := ⟨3, ![1024, 8, 1]⟩
abbrev S1024x8x127 : Shape := ⟨3, ![1024, 8, 127]⟩
abbrev S128x64x128 : Shape := ⟨3, ![128, 64, 128]⟩
abbrev S1x64x128 : Shape := ⟨3, ![1, 64, 128]⟩
abbrev S64x128 : Shape := ⟨2, ![64, 128]⟩
abbrev S8192x128 : Shape := ⟨2, ![8192, 128]⟩
abbrev S1x8x1 : Shape := ⟨3, ![1, 8, 1]⟩
abbrev S256x4x8x128 : Shape := ⟨4, ![256, 4, 8, 128]⟩
abbrev S256x8x128 : Shape := ⟨3, ![256, 8, 128]⟩
abbrev S256x16x128 : Shape := ⟨3, ![256, 16, 128]⟩
abbrev S256x16x1 : Shape := ⟨3, ![256, 16, 1]⟩
abbrev S256x16x127 : Shape := ⟨3, ![256, 16, 127]⟩
abbrev S64x64x128 : Shape := ⟨3, ![64, 64, 128]⟩
abbrev S4096x128 : Shape := ⟨2, ![4096, 128]⟩
abbrev S1x16x1 : Shape := ⟨3, ![1, 16, 1]⟩
abbrev S256x128 : Shape := ⟨2, ![256, 128]⟩
abbrev S256 : Shape := ⟨1, ![256]⟩
abbrev S64x4 : Shape := ⟨2, ![64, 4]⟩
abbrev S64 : Shape := ⟨1, ![64]⟩
abbrev S64x1 : Shape := ⟨2, ![64, 1]⟩

abbrev nBuf : Space → Nat
  | .hbm => 164
  | .vmem => 19
  | .smem => 1
  | _ => 0

abbrev hbmTy0_0 (i : Nat) : BufTy := match i % 128 with
  | 0 => ⟨S16384x8x128, .f32⟩
  | 1 => ⟨S16384x8x128, .f32⟩
  | 2 => ⟨S1024, .i32⟩
  | 3 => ⟨S4096, .i32⟩
  | 4 => ⟨S4096, .i32⟩
  | 5 => ⟨S8x8x3, .f32⟩
  | 6 => ⟨S8, .f32⟩
  | 7 => ⟨S8x8x3, .f32⟩
  | 8 => ⟨S8, .f32⟩
  | 9 => ⟨S16x16x3, .f32⟩
  | 10 => ⟨S16, .f32⟩
  | 11 => ⟨S16, .f32⟩
  | 12 => ⟨S_, .f32⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S8x8, .bf16⟩
  | 20 => ⟨S8x8x1, .f32⟩
  | 21 => ⟨S8x8, .f32⟩
  | 22 => ⟨S8x8, .bf16⟩
  | 23 => ⟨S8x1x8x1, .bf16⟩
  | 24 => ⟨S1x8x1x8, .bf16⟩
  | 25 => ⟨S8x8x8x8, .bf16⟩
  | 26 => ⟨S8x8x8x8, .bf16⟩
  | 27 => ⟨S8x8x8x8, .bf16⟩
  | 28 => ⟨S64x64, .bf16⟩
  | 29 => ⟨S8x8, .i32⟩
  | 30 => ⟨S8x8, .i32⟩
  | 31 => ⟨S_, .i32⟩
  | 32 => ⟨S8x8, .i32⟩
  | 33 => ⟨S8x8, .i32⟩
  | 34 => ⟨S8x8, .i1⟩
  | 35 => ⟨S8x8, .bf16⟩
  | 36 => ⟨S8x8x1, .f32⟩
  | 37 => ⟨S8x8, .f32⟩
  | 38 => ⟨S8x8, .bf16⟩
  | 39 => ⟨S8x1x8x1, .bf16⟩
  | 40 => ⟨S1x8x1x8, .bf16⟩
  | 41 => ⟨S8x8x8x8, .bf16⟩
  | 42 => ⟨S8x8x8x8, .bf16⟩
  | 43 => ⟨S8x8x8x8, .bf16⟩
  | 44 => ⟨S64x64, .bf16⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S8x8, .bf16⟩
  | 52 => ⟨S8x8x1, .f32⟩
  | 53 => ⟨S8x8, .f32⟩
  | 54 => ⟨S8x8, .bf16⟩
  | 55 => ⟨S8x1x8x1, .bf16⟩
  | 56 => ⟨S1x8x1x8, .bf16⟩
  | 57 => ⟨S8x8x8x8, .bf16⟩
  | 58 => ⟨S8x8x8x8, .bf16⟩
  | 59 => ⟨S8x8x8x8, .bf16⟩
  | 60 => ⟨S64x64, .bf16⟩
  | 61 => ⟨S8x8, .i32⟩
  | 62 => ⟨S8x8, .i32⟩
  | 63 => ⟨S_, .i32⟩
  | 64 => ⟨S8x8, .i32⟩
  | 65 => ⟨S8x8, .i32⟩
  | 66 => ⟨S8x8, .i1⟩
  | 67 => ⟨S8x8, .bf16⟩
  | 68 => ⟨S8x8x1, .f32⟩
  | 69 => ⟨S8x8, .f32⟩
  | 70 => ⟨S8x8, .bf16⟩
  | 71 => ⟨S8x1x8x1, .bf16⟩
  | 72 => ⟨S1x8x1x8, .bf16⟩
  | 73 => ⟨S8x8x8x8, .bf16⟩
  | 74 => ⟨S8x8x8x8, .bf16⟩
  | 75 => ⟨S8x8x8x8, .bf16⟩
  | 76 => ⟨S64x64, .bf16⟩
  | 77 => ⟨S8x8, .i32⟩
  | 78 => ⟨S8x8, .i32⟩
  | 79 => ⟨S_, .i32⟩
  | 80 => ⟨S8x8, .i32⟩
  | 81 => ⟨S8x8, .i32⟩
  | 82 => ⟨S8x8, .i1⟩
  | 83 => ⟨S8x8, .bf16⟩
  | 84 => ⟨S8x8x1, .f32⟩
  | 85 => ⟨S8x8, .f32⟩
  | 86 => ⟨S8x8, .bf16⟩
  | 87 => ⟨S8x1x8x1, .bf16⟩
  | 88 => ⟨S1x8x1x8, .bf16⟩
  | 89 => ⟨S8x8x8x8, .bf16⟩
  | 90 => ⟨S8x8x8x8, .bf16⟩
  | 91 => ⟨S8x8x8x8, .bf16⟩
  | 92 => ⟨S64x64, .bf16⟩
  | 93 => ⟨S8x8, .i32⟩
  | 94 => ⟨S8x8, .i32⟩
  | 95 => ⟨S_, .i32⟩
  | 96 => ⟨S8x8, .i32⟩
  | 97 => ⟨S8x8, .i32⟩
  | 98 => ⟨S8x8, .i1⟩
  | 99 => ⟨S8x8, .bf16⟩
  | 100 => ⟨S8x8x1, .f32⟩
  | 101 => ⟨S8x8, .f32⟩
  | 102 => ⟨S8x8, .bf16⟩
  | 103 => ⟨S8x1x8x1, .bf16⟩
  | 104 => ⟨S1x8x1x8, .bf16⟩
  | 105 => ⟨S8x8x8x8, .bf16⟩
  | 106 => ⟨S8x8x8x8, .bf16⟩
  | 107 => ⟨S8x8x8x8, .bf16⟩
  | 108 => ⟨S64x64, .bf16⟩
  | 109 => ⟨S4x4, .i32⟩
  | 110 => ⟨S4x4, .i32⟩
  | 111 => ⟨S_, .i32⟩
  | 112 => ⟨S4x4, .i32⟩
  | 113 => ⟨S4x4, .i32⟩
  | 114 => ⟨S4x4, .i1⟩
  | 115 => ⟨S4x4, .bf16⟩
  | 116 => ⟨S16x16x1, .f32⟩
  | 117 => ⟨S16x16, .f32⟩
  | 118 => ⟨S16x16, .bf16⟩
  | 119 => ⟨S4x1x4x1, .bf16⟩
  | 120 => ⟨S1x16x1x16, .bf16⟩
  | 121 => ⟨S4x16x4x16, .bf16⟩
  | 122 => ⟨S4x16x4x16, .bf16⟩
  | 123 => ⟨S4x16x4x16, .bf16⟩
  | 124 => ⟨S64x64, .bf16⟩
  | 125 => ⟨S4x4, .i32⟩
  | 126 => ⟨S4x4, .i32⟩
  | 127 => ⟨S_, .i32⟩
  | _ => ⟨S16384x8x128, .f32⟩

abbrev hbmTy0_1 (i : Nat) : BufTy := match i % 128 with
  | 0 => ⟨S4x4, .i32⟩
  | 1 => ⟨S4x4, .i32⟩
  | 2 => ⟨S4x4, .i1⟩
  | 3 => ⟨S4x4, .bf16⟩
  | 4 => ⟨S16x16x1, .f32⟩
  | 5 => ⟨S16x16, .f32⟩
  | 6 => ⟨S16x16, .bf16⟩
  | 7 => ⟨S4x1x4x1, .bf16⟩
  | 8 => ⟨S1x16x1x16, .bf16⟩
  | 9 => ⟨S4x16x4x16, .bf16⟩
  | 10 => ⟨S4x16x4x16, .bf16⟩
  | 11 => ⟨S4x16x4x16, .bf16⟩
  | 12 => ⟨S64x64, .bf16⟩
  | 13 => ⟨S4x4, .i32⟩
  | 14 => ⟨S4x4, .i32⟩
  | 15 => ⟨S_, .i32⟩
  | 16 => ⟨S4x4, .i32⟩
  | 17 => ⟨S4x4, .i32⟩
  | 18 => ⟨S4x4, .i1⟩
  | 19 => ⟨S4x4, .bf16⟩
  | 20 => ⟨S16x16x1, .f32⟩
  | 21 => ⟨S16x16, .f32⟩
  | 22 => ⟨S16x16, .bf16⟩
  | 23 => ⟨S4x1x4x1, .bf16⟩
  | 24 => ⟨S1x16x1x16, .bf16⟩
  | 25 => ⟨S4x16x4x16, .bf16⟩
  | 26 => ⟨S4x16x4x16, .bf16⟩
  | 27 => ⟨S4x16x4x16, .bf16⟩
  | 28 => ⟨S64x64, .bf16⟩
  | 29 => ⟨S8x1, .f32⟩
  | 30 => ⟨S8x1, .f32⟩
  | 31 => ⟨S16x1, .f32⟩
  | 32 => ⟨S16x1, .f32⟩
  | 33 => ⟨S1, .f32⟩
  | 34 => ⟨S16x1x256, .f32⟩
  | 35 => ⟨S4096, .f32⟩
  | _ => ⟨S16384x8x128, .f32⟩

abbrev hbmTy (i : Nat) : BufTy := match i / 128 with
  | 0 => hbmTy0_0 i
  | 1 => hbmTy0_1 i
  | _ => ⟨S16384x8x128, .f32⟩

abbrev bufTy : (tb : Table) → Fin (tcTables nBuf tb) → BufTy
  | .hbm, ⟨i, _⟩ => hbmTy i
  | .local _ .vmem, ⟨0, _⟩ => ⟨S1024x8x128, .f32⟩
  | .local _ .vmem, ⟨1, _⟩ => ⟨S1024x8x128, .f32⟩
  | .local _ .vmem, ⟨2, _⟩ => ⟨S1024x8x128, .f32⟩
  | .local _ .vmem, ⟨3, _⟩ => ⟨S1024x8x128, .f32⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S64x64, .bf16⟩
  | .local _ .vmem, ⟨10, _⟩ => ⟨S64x64, .bf16⟩
  | .local _ .vmem, ⟨11, _⟩ => ⟨S64x64, .bf16⟩
  | .local _ .vmem, ⟨12, _⟩ => ⟨S64x64, .bf16⟩
  | .local _ .vmem, ⟨13, _⟩ => ⟨S8x1, .f32⟩
  | .local _ .vmem, ⟨14, _⟩ => ⟨S8x1, .f32⟩
  | .local _ .vmem, ⟨15, _⟩ => ⟨S16x1, .f32⟩
  | .local _ .vmem, ⟨16, _⟩ => ⟨S16x1, .f32⟩
  | .local _ .vmem, ⟨17, _⟩ => ⟨S1x1x256, .f32⟩
  | .local _ .vmem, ⟨18, _⟩ => ⟨S1x1x256, .f32⟩
  | .local _ .smem, ⟨0, _⟩ => ⟨S1, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_3 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_4 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_c_5 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_c_6 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_c_7 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_call8_v0 : Ref sig .tc := ⟨.hbm, 151, rfl⟩
abbrev main_call8_v1 : Ref sig .tc := ⟨.hbm, 152, rfl⟩
abbrev main_call8_v2 : Ref sig .tc := ⟨.hbm, 153, rfl⟩
abbrev main_call8_v3 : Ref sig .tc := ⟨.hbm, 154, rfl⟩
abbrev main_call8_v4 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg15_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x8x128 : Shape := ⟨3, ![16384, 8, 128]⟩
abbrev S1024 : Shape := ⟨1, ![1024]⟩
abbrev S4096 : Shape := ⟨1, ![4096]⟩
abbrev S8x8x3 : Shape := ⟨3, ![8, 8, 3]⟩
abbrev S8 : Shape := ⟨1, ![8]⟩
abbrev S16x16x3 : Shape := ⟨3, ![16, 16, 3]⟩
abbrev S16 : Shape := ⟨1, ![16]⟩
abbrev S_ : Shape := ⟨0, ![]⟩
abbrev S16384x8x130 : Shape := ⟨3, ![16384, 8, 130]⟩
abbrev S8x8x1 : Shape := ⟨3, ![8, 8, 1]⟩
abbrev S8x8 : Shape := ⟨2, ![8, 8]⟩
abbrev S16384x128x8 : Shape := ⟨3, ![16384, 128, 8]⟩
abbrev S1x8x1 : Shape := ⟨3, ![1, 8, 1]⟩
abbrev S1 : Shape := ⟨1, ![1]⟩
abbrev S4095 : Shape := ⟨1, ![4095]⟩
abbrev S16384 : Shape := ⟨1, ![16384]⟩
abbrev S4096x1 : Shape := ⟨2, ![4096, 1]⟩
abbrev S16384x1 : Shape := ⟨2, ![16384, 1]⟩
abbrev S1x1 : Shape := ⟨2, ![1, 1]⟩
abbrev S4096x8x128 : Shape := ⟨3, ![4096, 8, 128]⟩
abbrev S4096x16x128 : Shape := ⟨3, ![4096, 16, 128]⟩
abbrev S4096x16x130 : Shape := ⟨3, ![4096, 16, 130]⟩
abbrev S16x16x1 : Shape := ⟨3, ![16, 16, 1]⟩
abbrev S16x16 : Shape := ⟨2, ![16, 16]⟩
abbrev S4096x128x16 : Shape := ⟨3, ![4096, 128, 16]⟩
abbrev S1x16x1 : Shape := ⟨3, ![1, 16, 1]⟩
abbrev S4096x16 : Shape := ⟨2, ![4096, 16]⟩
abbrev S1023 : Shape := ⟨1, ![1023]⟩
abbrev S1024x1 : Shape := ⟨2, ![1024, 1]⟩
abbrev S1x4096 : Shape := ⟨2, ![1, 4096]⟩
abbrev S1024x4096 : Shape := ⟨2, ![1024, 4096]⟩

abbrev nBuf : Space → Nat
  | .hbm => 304
  | .vmem => 0
  | .smem => 0
  | _ => 0

abbrev hbmTy0_0 (i : Nat) : BufTy := match i % 128 with
  | 0 => ⟨S16384x8x128, .f32⟩
  | 1 => ⟨S16384x8x128, .f32⟩
  | 2 => ⟨S1024, .i32⟩
  | 3 => ⟨S4096, .i32⟩
  | 4 => ⟨S4096, .i32⟩
  | 5 => ⟨S8x8x3, .f32⟩
  | 6 => ⟨S8, .f32⟩
  | 7 => ⟨S8x8x3, .f32⟩
  | 8 => ⟨S8, .f32⟩
  | 9 => ⟨S16x16x3, .f32⟩
  | 10 => ⟨S16, .f32⟩
  | 11 => ⟨S16, .f32⟩
  | 12 => ⟨S_, .f32⟩
  | 13 => ⟨S_, .i32⟩
  | 14 => ⟨S_, .f32⟩
  | 15 => ⟨S16384x8x130, .f32⟩
  | 16 => ⟨S8x8x1, .f32⟩
  | 17 => ⟨S8x8, .f32⟩
  | 18 => ⟨S16384x8x128, .f32⟩
  | 19 => ⟨S16384x128x8, .f32⟩
  | 20 => ⟨S16384x8x128, .f32⟩
  | 21 => ⟨S8x8x1, .f32⟩
  | 22 => ⟨S8x8, .f32⟩
  | 23 => ⟨S16384x8x128, .f32⟩
  | 24 => ⟨S16384x128x8, .f32⟩
  | 25 => ⟨S16384x8x128, .f32⟩
  | 26 => ⟨S8x8x1, .f32⟩
  | 27 => ⟨S8x8, .f32⟩
  | 28 => ⟨S16384x8x128, .f32⟩
  | 29 => ⟨S16384x128x8, .f32⟩
  | 30 => ⟨S16384x8x128, .f32⟩
  | 31 => ⟨S16384x8x128, .f32⟩
  | 32 => ⟨S16384x8x128, .f32⟩
  | 33 => ⟨S1x8x1, .f32⟩
  | 34 => ⟨S16384x8x128, .f32⟩
  | 35 => ⟨S16384x8x128, .f32⟩
  | 36 => ⟨S_, .f32⟩
  | 37 => ⟨S16384x8x128, .f32⟩
  | 38 => ⟨S16384x8x128, .f32⟩
  | 39 => ⟨S_, .i32⟩
  | 40 => ⟨S_, .f32⟩
  | 41 => ⟨S16384x8x130, .f32⟩
  | 42 => ⟨S8x8x1, .f32⟩
  | 43 => ⟨S8x8, .f32⟩
  | 44 => ⟨S16384x8x128, .f32⟩
  | 45 => ⟨S16384x128x8, .f32⟩
  | 46 => ⟨S16384x8x128, .f32⟩
  | 47 => ⟨S8x8x1, .f32⟩
  | 48 => ⟨S8x8, .f32⟩
  | 49 => ⟨S16384x8x128, .f32⟩
  | 50 => ⟨S16384x128x8, .f32⟩
  | 51 => ⟨S16384x8x128, .f32⟩
  | 52 => ⟨S8x8x1, .f32⟩
  | 53 => ⟨S8x8, .f32⟩
  | 54 => ⟨S16384x8x128, .f32⟩
  | 55 => ⟨S16384x128x8, .f32⟩
  | 56 => ⟨S16384x8x128, .f32⟩
  | 57 => ⟨S16384x8x128, .f32⟩
  | 58 => ⟨S16384x8x128, .f32⟩
  | 59 => ⟨S1x8x1, .f32⟩
  | 60 => ⟨S16384x8x128, .f32⟩
  | 61 => ⟨S16384x8x128, .f32⟩
  | 62 => ⟨S_, .f32⟩
  | 63 => ⟨S16384x8x128, .f32⟩
  | 64 => ⟨S16384x8x128, .f32⟩
  | 65 => ⟨S4096, .i32⟩
  | 66 => ⟨S1, .i32⟩
  | 67 => ⟨S4095, .i32⟩
  | 68 => ⟨S4096, .i32⟩
  | 69 => ⟨S_, .i32⟩
  | 70 => ⟨S1, .i32⟩
  | 71 => ⟨S_, .i32⟩
  | 72 => ⟨S4096, .i32⟩
  | 73 => ⟨S_, .i32⟩
  | 74 => ⟨S_, .i32⟩
  | 75 => ⟨S4096, .i32⟩
  | 76 => ⟨S_, .i32⟩
  | 77 => ⟨S16384, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S_, .i32⟩
  | 87 => ⟨S4096, .i32⟩
  | 88 => ⟨S16384, .i32⟩
  | 89 => ⟨S_, .i32⟩
  | 90 => ⟨S_, .i32⟩
  | 91 => ⟨S16384, .i32⟩
  | 92 => ⟨S_, .i32⟩
  | 93 => ⟨S16384, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384, .i32⟩
  | 114 => ⟨S_, .i32⟩
  | 115 => ⟨S16384, .i32⟩
  | 116 => ⟨S16384, .i32⟩
  | 117 => ⟨S4096, .i32⟩
  | 118 => ⟨S1, .i32⟩
  | 119 => ⟨S4095, .i32⟩
  | 120 => ⟨S4096, .i32⟩
  | 121 => ⟨S_, .i32⟩
  | 122 => ⟨S1, .i32⟩
  | 123 => ⟨S_, .i32⟩
  | 124 => ⟨S4096, .i32⟩
  | 125 => ⟨S_, .i32⟩
  | 126 => ⟨S_, .i32⟩
  | 127 => ⟨S4096, .i32⟩
  | _ => ⟨S16384x8x128, .f32⟩

abbrev hbmTy0_1 (i : Nat) : BufTy := match i % 128 with
  | 0 => ⟨S_, .i32⟩
  | 1 => ⟨S16384, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S_, .i32⟩
  | 11 => ⟨S4096, .i32⟩
  | 12 => ⟨S16384, .i32⟩
  | 13 => ⟨S_, .i32⟩
  | 14 => ⟨S_, .i32⟩
  | 15 => ⟨S16384, .i32⟩
  | 16 => ⟨S_, .i32⟩
  | 17 => ⟨S16384, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384, .i32⟩
  | 38 => ⟨S_, .i32⟩
  | 39 => ⟨S16384, .i32⟩
  | 40 => ⟨S16384, .i32⟩
  | 41 => ⟨S_, .f32⟩
  | 42 => ⟨S4096x8x128, .f32⟩
  | 43 => ⟨S16384x1, .i32⟩
  | 44 => ⟨S4096x8x128, .f32⟩
  | 45 => ⟨S_, .f32⟩
  | 46 => ⟨S4096x8x128, .f32⟩
  | 47 => ⟨S16384x1, .i32⟩
  | 48 => ⟨S4096x8x128, .f32⟩
  | 49 => ⟨S4096x16x128, .f32⟩
  | 50 => ⟨S_, .i32⟩
  | 51 => ⟨S_, .f32⟩
  | 52 => ⟨S4096x16x130, .f32⟩
  | 53 => ⟨S16x16x1, .f32⟩
  | 54 => ⟨S16x16, .f32⟩
  | 55 => ⟨S4096x16x128, .f32⟩
  | 56 => ⟨S4096x128x16, .f32⟩
  | 57 => ⟨S4096x16x128, .f32⟩
  | 58 => ⟨S16x16x1, .f32⟩
  | 59 => ⟨S16x16, .f32⟩
  | 60 => ⟨S4096x16x128, .f32⟩
  | 61 => ⟨S4096x128x16, .f32⟩
  | 62 => ⟨S4096x16x128, .f32⟩
  | 63 => ⟨S16x16x1, .f32⟩
  | 64 => ⟨S16x16, .f32⟩
  | 65 => ⟨S4096x16x128, .f32⟩
  | 66 => ⟨S4096x128x16, .f32⟩
  | 67 => ⟨S4096x16x128, .f32⟩
  | 68 => ⟨S4096x16x128, .f32⟩
  | 69 => ⟨S4096x16x128, .f32⟩
  | 70 => ⟨S1x16x1, .f32⟩
  | 71 => ⟨S4096x16x128, .f32⟩
  | 72 => ⟨S4096x16x128, .f32⟩
  | 73 => ⟨S_, .f32⟩
  | 74 => ⟨S4096x16x128, .f32⟩
  | 75 => ⟨S4096x16x128, .f32⟩
  | 76 => ⟨S_, .f32⟩
  | 77 => ⟨S4096x16, .f32⟩
  | 78 => ⟨S_, .f32⟩
  | 79 => ⟨S4096x16, .f32⟩
  | 80 => ⟨S4096x16, .f32⟩
  | 81 => ⟨S4096, .f32⟩
  | 82 => ⟨S4096, .f32⟩
  | 83 => ⟨S4096, .f32⟩
  | 84 => ⟨S1024, .i32⟩
  | 85 => ⟨S1, .i32⟩
  | 86 => ⟨S1023, .i32⟩
  | 87 => ⟨S1024, .i32⟩
  | 88 => ⟨S_, .i32⟩
  | 89 => ⟨S1, .i32⟩
  | 90 => ⟨S_, .i32⟩
  | 91 => ⟨S1024, .i32⟩
  | 92 => ⟨S_, .i32⟩
  | 93 => ⟨S_, .i32⟩
  | 94 => ⟨S1024, .i32⟩
  | 95 => ⟨S_, .i32⟩
  | 96 => ⟨S4096, .i32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S1024, .i32⟩
  | 104 => ⟨S1024x1, .i32⟩
  | 105 => ⟨S_, .i32⟩
  | 106 => ⟨S1024, .i32⟩
  | 107 => ⟨S4096, .i32⟩
  | 108 => ⟨S_, .i32⟩
  | 109 => ⟨S_, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S1, .i32⟩
  | 123 => ⟨S_, .i32⟩
  | 124 => ⟨S4096x1, .i32⟩
  | 125 => ⟨S4096x1, .i1⟩
  | 126 => ⟨S1x1, .i32⟩
  | 127 => ⟨S4096x1, .i32⟩
  | _ => ⟨S16384x8x128, .f32⟩

abbrev hbmTy0_2 (i : Nat) : BufTy := match i % 128 with
  | 0 => ⟨S4096x1, .i1⟩
  | 1 => ⟨S4096x1, .i1⟩
  | 2 => ⟨S_, .i1⟩
  | 3 => ⟨S4096, .i1⟩
  | 4 => ⟨S4096, .i32⟩
  | 5 => ⟨S_, .i32⟩
  | 6 => ⟨S4096, .i32⟩
  | 7 => ⟨S4096, .i32⟩
  | 8 => ⟨S1x4096, .i32⟩
  | 9 => ⟨S1024, .i32⟩
  | 10 => ⟨S1024x1, .i32⟩
  | 11 => ⟨S1024x4096, .i32⟩
  | 12 => ⟨S1024x4096, .i32⟩
  | 13 => ⟨S1024x4096, .i1⟩
  | 14 => ⟨S1x4096, .f32⟩
  | 15 => ⟨S_, .f32⟩
  | 16 => ⟨S_, .f32⟩
  | 17 => ⟨S1024x4096, .f32⟩
  | 18 => ⟨S1024x4096, .f32⟩
  | 19 => ⟨S1024x4096, .f32⟩
  | 20 => ⟨S_, .f32⟩
  | 21 => ⟨S1024, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096, .f32⟩
  | 31 => ⟨S4096, .f32⟩
  | 32 => ⟨S4096, .f32⟩
  | 33 => ⟨S_, .f32⟩
  | 34 => ⟨S1024, .f32⟩
  | 35 => ⟨S4096x1, .i32⟩
  | 36 => ⟨S1024, .f32⟩
  | 37 => ⟨S1024, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4096, .f32⟩
  | 47 => ⟨S4096, .f32⟩
  | _ => ⟨S16384x8x128, .f32⟩

abbrev hbmTy (i : Nat) : BufTy := match i / 128 with
  | 0 => hbmTy0_0 i
  | 1 => hbmTy0_1 i
  | 2 => hbmTy0_2 i
  | _ => ⟨S16384x8x128, .f32⟩

abbrev bufTy : (tb : Table) → Fin (tcTables nBuf tb) → BufTy
  | .hbm, ⟨i, _⟩ => hbmTy i
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_c_0 : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_v0 : Ref sig .tc := ⟨.hbm, 66, rfl⟩
abbrev main_call2_v1 : Ref sig .tc := ⟨.hbm, 67, rfl⟩
abbrev main_v47 : Ref sig .tc := ⟨.hbm, 68, rfl⟩
abbrev main_c_2 : Ref sig .tc := ⟨.hbm, 69, rfl⟩
abbrev main_v48 : Ref sig .tc := ⟨.hbm, 70, rfl⟩
abbrev main_c_3 : Ref sig .tc := ⟨.hbm, 71, rfl⟩
abbrev main_v49 : Ref sig .tc := ⟨.hbm, 72, rfl⟩
abbrev main_call3_call0_c : Ref sig .tc := ⟨.hbm, 73, rfl⟩
abbrev main_call3_call0_v0 : Ref sig .tc := ⟨.hbm, 74, rfl⟩
abbrev main_v50 : Ref sig .tc := ⟨.hbm, 75, rfl⟩
abbrev main_c_4 : Ref sig .tc := ⟨.hbm, 76, rfl⟩
abbrev main_v51 : Ref sig .tc := ⟨.hbm, 77, rfl⟩
abbrev main_c_5 : Ref sig .tc := ⟨.hbm, 78, rfl⟩
abbrev main_v52 : Ref sig .tc := ⟨.hbm, 79, rfl⟩
abbrev main_v53 : Ref sig .tc := ⟨.hbm, 80, rfl⟩
abbrev main_c_6 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_7 : Ref sig .tc := ⟨.hbm, 86, rfl⟩
abbrev main_v58 : Ref sig .tc := ⟨.hbm, 87, rfl⟩
abbrev main_v59 : Ref sig .tc := ⟨.hbm, 88, rfl⟩
abbrev main_call4_call0_c : Ref sig .tc := ⟨.hbm, 89, rfl⟩
abbrev main_call4_call0_v0 : Ref sig .tc := ⟨.hbm, 90, rfl⟩
abbrev main_v60 : Ref sig .tc := ⟨.hbm, 91, rfl⟩
abbrev main_c_8 : Ref sig .tc := ⟨.hbm, 92, rfl⟩
abbrev main_v61 : Ref sig .tc := ⟨.hbm, 93, rfl⟩
abbrev main_v62 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_call5_c_0 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_c_1 : Ref sig .tc := ⟨.hbm, 103, rfl⟩
abbrev main_call5_c_2 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_3 : Ref sig .tc := ⟨.hbm, 111, rfl⟩
abbrev main_call5_v12 : Ref sig .tc := ⟨.hbm, 112, rfl⟩
abbrev main_call5_v13 : Ref sig .tc := ⟨.hbm, 113, rfl⟩
abbrev main_call5_c_4 : Ref sig .tc := ⟨.hbm, 114, rfl⟩
abbrev main_call5_v14 : Ref sig .tc := ⟨.hbm, 115, rfl⟩
abbrev main_v63 : Ref sig .tc := ⟨.hbm, 116, rfl⟩
abbrev main_v64 : Ref sig .tc := ⟨.hbm, 117, rfl⟩
abbrev main_call6_v0 : Ref sig .tc := ⟨.hbm, 118, rfl⟩
abbrev main_call6_v1 : Ref sig .tc := ⟨.hbm, 119, rfl⟩
abbrev main_v65 : Ref sig .tc := ⟨.hbm, 120, rfl⟩
abbrev main_c_9 : Ref sig .tc := ⟨.hbm, 121, rfl⟩
abbrev main_v66 : Ref sig .tc := ⟨.hbm, 122, rfl⟩
abbrev main_c_10 : Ref sig .tc := ⟨.hbm, 123, rfl⟩
abbrev main_v67 : Ref sig .tc := ⟨.hbm, 124, rfl⟩
abbrev main_call7_call0_c : Ref sig .tc := ⟨.hbm, 125, rfl⟩
abbrev main_call7_call0_v0 : Ref sig .tc := ⟨.hbm, 126, rfl⟩
abbrev main_v68 : Ref sig .tc := ⟨.hbm, 127, rfl⟩
abbrev main_c_11 : Ref sig .tc := ⟨.hbm, 128, rfl⟩
abbrev main_v69 : Ref sig .tc := ⟨.hbm, 129, rfl⟩
abbrev main_c_12 : Ref sig .tc := ⟨.hbm, 130, rfl⟩
abbrev main_v70 : Ref sig .tc := ⟨.hbm, 131, rfl⟩
abbrev main_v71 : Ref sig .tc := ⟨.hbm, 132, rfl⟩
abbrev main_c_13 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_c_14 : Ref sig .tc := ⟨.hbm, 138, rfl⟩
abbrev main_v76 : Ref sig .tc := ⟨.hbm, 139, rfl⟩
abbrev main_v77 : Ref sig .tc := ⟨.hbm, 140, rfl⟩
abbrev main_call8_call0_c : Ref sig .tc := ⟨.hbm, 141, rfl⟩
abbrev main_call8_call0_v0 : Ref sig .tc := ⟨.hbm, 142, rfl⟩
abbrev main_v78 : Ref sig .tc := ⟨.hbm, 143, rfl⟩
abbrev main_c_15 : Ref sig .tc := ⟨.hbm, 144, rfl⟩
abbrev main_v79 : Ref sig .tc := ⟨.hbm, 145, rfl⟩
abbrev main_v80 : Ref sig .tc := ⟨.hbm, 146, rfl⟩
abbrev main_call9_c : Ref sig .tc := ⟨.hbm, 147, rfl⟩
abbrev main_call9_v0 : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_call9_c_1 : Ref sig .tc := ⟨.hbm, 155, rfl⟩
abbrev main_call9_c_2 : Ref sig .tc := ⟨.hbm, 156, rfl⟩
abbrev main_call9_v6 : Ref sig .tc := ⟨.hbm, 157, rfl⟩
abbrev main_call9_v7 : Ref sig .tc := ⟨.hbm, 158, rfl⟩
abbrev main_call9_v8 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_c_3 : Ref sig .tc := ⟨.hbm, 163, rfl⟩
abbrev main_call9_v12 : Ref sig .tc := ⟨.hbm, 164, rfl⟩
abbrev main_call9_v13 : Ref sig .tc := ⟨.hbm, 165, rfl⟩
abbrev main_call9_c_4 : Ref sig .tc := ⟨.hbm, 166, rfl⟩
abbrev main_call9_v14 : Ref sig .tc := ⟨.hbm, 167, rfl⟩
abbrev main_v81 : Ref sig .tc := ⟨.hbm, 168, rfl⟩
abbrev main_cst_16 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_cst_17 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_c_18 : Ref sig .tc := ⟨.hbm, 178, rfl⟩
abbrev main_call10_v0 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_cst_19 : Ref sig .tc := ⟨.hbm, 201, rfl⟩
abbrev main_v110 : Ref sig .tc := ⟨.hbm, 202, rfl⟩
abbrev main_v111 : Ref sig .tc := ⟨.hbm, 203, rfl⟩
abbrev main_cst_20 : Ref sig .tc := ⟨.hbm, 204, rfl⟩
abbrev main_v112 : Ref sig .tc := ⟨.hbm, 205, rfl⟩
abbrev main_cst_21 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_call11_v0 : Ref sig .tc := ⟨.hbm, 213, rfl⟩
abbrev main_call11_v1 : Ref sig .tc := ⟨.hbm, 214, rfl⟩
abbrev main_v119 : Ref sig .tc := ⟨.hbm, 215, rfl⟩
abbrev main_c_22 : Ref sig .tc := ⟨.hbm, 216, rfl⟩
abbrev main_v120 : Ref sig .tc := ⟨.hbm, 217, rfl⟩
abbrev main_c_23 : Ref sig .tc := ⟨.hbm, 218, rfl⟩
abbrev main_v121 : Ref sig .tc := ⟨.hbm, 219, rfl⟩
abbrev main_call12_call0_c : Ref sig .tc := ⟨.hbm, 220, rfl⟩
abbrev main_call12_call0_v0 : Ref sig .tc := ⟨.hbm, 221, rfl⟩
abbrev main_v122 : Ref sig .tc := ⟨.hbm, 222, rfl⟩
abbrev main_c_24 : Ref sig .tc := ⟨.hbm, 223, rfl⟩
abbrev main_v123 : Ref sig .tc := ⟨.hbm, 224, rfl⟩
abbrev main_c_25 : Ref sig .tc := ⟨.hbm, 225, rfl⟩
abbrev main_v124 : Ref sig .tc := ⟨.hbm, 226, rfl⟩
abbrev main_v125 : Ref sig .tc := ⟨.hbm, 227, rfl⟩
abbrev main_c_26 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_c_27 : Ref sig .tc := ⟨.hbm, 233, rfl⟩
abbrev main_v130 : Ref sig .tc := ⟨.hbm, 234, rfl⟩
abbrev main_v131 : Ref sig .tc := ⟨.hbm, 235, rfl⟩
abbrev main_call13_call0_c : Ref sig .tc := ⟨.hbm, 236, rfl⟩
abbrev main_call13_call0_v0 : Ref sig .tc := ⟨.hbm, 237, rfl⟩
abbrev main_v132 : Ref sig .tc := ⟨.hbm, 238, rfl⟩
abbrev main_c_28 : Ref sig .tc := ⟨.hbm, 239, rfl⟩
abbrev main_v133 : Ref sig .tc := ⟨.hbm, 240, rfl⟩
abbrev main_v134 : Ref sig .tc := ⟨.hbm, 241, rfl⟩
abbrev main_call14_c : Ref sig .tc := ⟨.hbm, 242, rfl⟩
abbrev main_call14_v0 : Ref sig .tc := ⟨.hbm, 243, rfl⟩
abbrev main_call14_v1 : Ref sig .tc := ⟨.hbm, 244, rfl⟩
abbrev main_call14_c_0 : Ref sig .tc := ⟨.hbm, 245, rfl⟩
abbrev main_call14_v2 : Ref sig .tc := ⟨.hbm, 246, rfl⟩
abbrev main_call14_v3 : Ref sig .tc := ⟨.hbm, 247, rfl⟩
abbrev main_call14_v4 : Ref sig .tc := ⟨.hbm, 248, rfl⟩
abbrev main_call14_v5 : Ref sig .tc := ⟨.hbm, 249, rfl⟩
abbrev main_call14_c_1 : Ref sig .tc := ⟨.hbm, 250, rfl⟩
abbrev main_call14_c_2 : Ref sig .tc := ⟨.hbm, 251, rfl⟩
abbrev main_call14_v6 : Ref sig .tc := ⟨.hbm, 252, rfl⟩
abbrev main_call14_v7 : Ref sig .tc := ⟨.hbm, 253, rfl⟩
abbrev main_call14_v8 : Ref sig .tc := ⟨.hbm, 254, rfl⟩
abbrev main_call14_v9 : Ref sig .tc := ⟨.hbm, 255, rfl⟩
abbrev main_call14_v10 : Ref sig .tc := ⟨.hbm, 256, rfl⟩
abbrev main_call14_v11 : Ref sig .tc := ⟨.hbm, 257, rfl⟩
abbrev main_call14_c_3 : Ref sig .tc := ⟨.hbm, 258, rfl⟩
abbrev main_call14_v12 : Ref sig .tc := ⟨.hbm, 259, rfl⟩
abbrev main_call14_v13 : Ref sig .tc := ⟨.hbm, 260, rfl⟩
abbrev main_call14_c_4 : Ref sig .tc := ⟨.hbm, 261, rfl⟩
abbrev main_call14_v14 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_cst_29 : Ref sig .tc := ⟨.hbm, 271, rfl⟩
abbrev main_call15_v0 : Ref sig .tc := ⟨.hbm, 272, rfl⟩
abbrev main_call15_v1 : Ref sig .tc := ⟨.hbm, 273, rfl⟩
abbrev main_call15_v2 : Ref sig .tc := ⟨.hbm, 274, rfl⟩
abbrev main_v143 : Ref sig .tc := ⟨.hbm, 275, rfl⟩
abbrev main_cst_30 : Ref sig .tc := ⟨.hbm, 276, rfl⟩
abbrev main_v144 : Ref sig .tc := ⟨.hbm, 277, rfl⟩
abbrev main_c_31 : Ref sig .tc := ⟨.hbm, 278, rfl⟩
abbrev main_v145 : Ref sig .tc := ⟨.hbm, 279, rfl⟩
abbrev main_v146 : Ref sig .tc := ⟨.hbm, 280, rfl⟩
abbrev main_c_32 : Ref sig .tc := ⟨.hbm, 281, rfl⟩
abbrev main_v147 : Ref sig .tc := ⟨.hbm, 282, rfl⟩
abbrev main_v148 : Ref sig .tc := ⟨.hbm, 283, rfl⟩
abbrev main_v149 : Ref sig .tc := ⟨.hbm, 284, rfl⟩
abbrev main_v150 : Ref sig .tc := ⟨.hbm, 285, rfl⟩
abbrev main_v151 : Ref sig .tc := ⟨.hbm, 286, rfl⟩
abbrev main_v152 : Ref sig .tc := ⟨.hbm, 287, rfl⟩
abbrev main_v153 : Ref sig .tc := ⟨.hbm, 288, rfl⟩
abbrev main_cst_33 : Ref sig .tc := ⟨.hbm, 289, rfl⟩
abbrev main_v154 : Ref sig .tc := ⟨.hbm, 290, rfl⟩
abbrev main_v155 : Ref sig .tc := ⟨.hbm, 291, rfl⟩
abbrev main_v156 : Ref sig .tc := ⟨.hbm, 292, rfl⟩
abbrev main_v157 : Ref sig .tc := ⟨.hbm, 293, rfl⟩
abbrev main_c_34 : Ref sig .tc := ⟨.hbm, 294, rfl⟩
abbrev main_v158 : Ref sig .tc := ⟨.hbm, 295, rfl⟩
abbrev main_v159 : Ref sig .tc := ⟨.hbm, 296, rfl⟩
abbrev main_c_35 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩

abbrev nD : Nat := 1
abbrev τ : Topo := Topo.v7x

variable {F : FTy → Type} [FloatOps F]
-- ==== Proof.Spec.lean ====
module
public import Idealize.ShloMosaic.Lib.Pointwise

@[expose] public section

/-!
The function both programs compute, written once over extended reals: a width-3 convolution with bias and
rectifier on every read, sums over the four reads of an allele, a second convolution on the joined channels,
a mean over positions, a linear form, and a log-softmax over the four alleles of a site.
-/

set_option maxRecDepth 16384

noncomputable section

open Idealize.ShloMosaic

namespace Cert.Spec

/-- The row `v` seen through tap `k` of a width-3 convolution: shifted by one position to the right, unmoved,
    or shifted by one position to the left, with a zero moved in. -/
def tap (v : Fin 128 → EReal) (k : Fin 3) (l : Fin 128) : EReal :=
  match k with
  | 0 => if h : l.val < 1 then 0 else v ⟨l.val - 1, by omega⟩
  | 1 => v l
  | 2 => if h : l.val < 127 then v ⟨l.val + 1, by omega⟩ else 0

/-- One output channel of the convolution of the rows `x` with the weights `W`, at position `l`, before the
    bias: the three taps' inner products over the channels, added in order. -/
def conv {C : ℕ} (W : Fin C → Fin 3 → EReal) (x : Fin C → Fin 128 → EReal) (l : Fin 128) : EReal :=
  (∑ c, W c 0 * tap (x c) 0 l) + (∑ c, W c 1 * tap (x c) 1 l) + ∑ c, W c 2 * tap (x c) 2 l

/-- The convolution with its bias added and negative values replaced by zero. -/
def layer {C : ℕ} (W : Fin C → Fin 3 → EReal) (b : EReal) (x : Fin C → Fin 128 → EReal) (l : Fin 128) : EReal :=
  max (conv W x l + b) 0

/-- The layer of the four reads of one allele, summed over the reads. -/
def allele (W : Fin 8 → Fin 8 → Fin 3 → EReal) (b : Fin 8 → EReal) (x : Fin 4 → Fin 8 → Fin 128 → EReal)
    (f : Fin 8) (l : Fin 128) : EReal :=
  ∑ q : Fin 4, layer (W f) (b f) (x q) l

/-- The sixteen joined channels of an allele: eight from the first sequencing technology, eight from the second. -/
def joined (a0 a1 : Fin 8 → Fin 128 → EReal) (g : Fin 16) (l : Fin 128) : EReal :=
  if h : g.val < 8 then a0 ⟨g.val, h⟩ l else a1 ⟨g.val - 8, by omega⟩ l

/-- The score of an allele from its sixteen channels: the second layer, the mean over the 128 positions of each
    output channel, their linear form with the weights `wo`, and the bias `bo`. -/
def score (W : Fin 16 → Fin 16 → Fin 3 → EReal) (b wo : Fin 16 → EReal) (bo : EReal)
    (x : Fin 16 → Fin 128 → EReal) : EReal :=
  (∑ g : Fin 16, Ideal.div (∑ l : Fin 128, layer (W g) (b g) x l) ((128 : ℝ) : EReal) * wo g) + bo

/-- The greatest of four scores. -/
def top (s : Fin 4 → EReal) : EReal := Finset.univ.fold max ⊥ s

/-- The log-softmax of four scores at place `q`. -/
def logsoft (s : Fin 4 → EReal) (q : Fin 4) : EReal :=
  (s q - top s) - Ideal.log (∑ p : Fin 4, Ideal.exp (s p - top s))

/-- The score of allele `a`, from the reads `a·4 … a·4 + 3` of both technologies. -/
def alleleScore (x0 x1 : Fin 16384 → Fin 8 → Fin 128 → EReal) (W0 : Fin 8 → Fin 8 → Fin 3 → EReal) (b0 : Fin 8 → EReal)
    (W1 : Fin 8 → Fin 8 → Fin 3 → EReal) (b1 : Fin 8 → EReal) (W2 : Fin 16 → Fin 16 → Fin 3 → EReal)
    (b2 wo : Fin 16 → EReal) (bo : EReal) (a : Fin 4096) : EReal :=
  score W2 b2 wo bo (joined
    (allele W0 b0 fun q => x0 ⟨a.val * 4 + q.val, by omega⟩)
    (allele W1 b1 fun q => x1 ⟨a.val * 4 + q.val, by omega⟩))

/-- The result at allele `i`: the log-softmax of the scores of its site's four alleles, at its place among them. -/
def answer (sc : Fin 4096 → EReal) (i : Fin 4096) : EReal :=
  logsoft (fun p => sc ⟨i.val / 4 * 4 + p.val, by omega⟩) ⟨i.val % 4, by omega⟩

/-- A product with a row that is a copy of `W` at the block `q` and zero elsewhere, as a block-diagonal matrix's
    row is, sums to the inner product with the block. -/
theorem collapse (Q C : ℕ) (w u : Fin (Q * C) → EReal) (q : Fin Q) (W : Fin C → EReal)
    (hlt : ∀ (q' : Fin Q) (c : Fin C), q'.val * C + c.val < Q * C)
    (hw : ∀ (q' : Fin Q) (c : Fin C), w ⟨q'.val * C + c.val, hlt q' c⟩ = (if q = q' then 1 else 0) * W c) :
    ∑ j, w j * u j = ∑ c : Fin C, W c * u ⟨q.val * C + c.val, hlt q c⟩ := by
  rw [Fin.sum_univ_tiles Q C rfl]
  rw [Finset.sum_eq_single q]
  · refine Finset.sum_congr rfl fun c _ => ?_
    rw [hw q c]; simp
  · intro q' _ hne
    refine Finset.sum_eq_zero fun c _ => ?_
    rw [hw q' c, if_neg (fun h => hne h.symm)]; simp
  · intro h; exact absurd (Finset.mem_univ q) h

/-- A sum of nonnegative numbers times a number is the sum of the products, over the extended reals. -/
theorem sum_mul_of_nonneg {ι : Type} (s : Finset ι) (f : ι → EReal) (hf : ∀ i, 0 ≤ f i) (w : EReal) :
    (∑ i ∈ s, f i) * w = ∑ i ∈ s, f i * w := by
  classical
  induction s using Finset.induction_on with
  | empty => simp
  | insert a s ha ih =>
    rw [Finset.sum_insert ha, Finset.sum_insert ha,
      EReal.right_distrib_of_nonneg (hf a) (Finset.sum_nonneg fun i _ => hf i), ih]

/-- A sum times a positive real number is the sum of the products, over the extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The mean of each nonnegative channel, then the linear form, is the mean of the positions' linear forms. -/
theorem mean_form (h : Fin 16 → Fin 128 → EReal) (hpos : ∀ g l, 0 ≤ h g l) (wo : Fin 16 → EReal) :
    Ideal.div (∑ l : Fin 128, ∑ g : Fin 16, h g l * wo g) ((128 : ℝ) : EReal)
      = ∑ g : Fin 16, Ideal.div (∑ l : Fin 128, h g l) ((128 : ℝ) : EReal) * wo g := by
  rw [Finset.sum_comm]
  simp only [Ideal.div_coe (show (128 : ℝ) ≠ 0 by norm_num)]
  rw [sum_mul_real _ _ _ (by norm_num)]
  refine Finset.sum_congr rfl fun g _ => ?_
  rw [← sum_mul_of_nonneg _ _ (hpos g), mul_assoc, mul_comm (wo g), ← mul_assoc]

end Cert.Spec

end
-- ==== Proof.Stage.lean ====
module
public import proofs.«01_k».proof.Proof.Gen.KernelIdeal.Skeleton
public import proofs.«01_k».proof.Proof.Spec
public import Idealize.ShloMosaic.Lib.Pointwise
public import Idealize.ShloMosaic.Lib.Pipeline.ValueKit

@[expose] public section

/-!
The stages of one grid point's computation, each as one function of its operands: the three shifted copies of a
block, one group's three products, the groups stacked, the bias and rectifier, and the closing linear form with
its log-softmax.
-/

set_option maxRecDepth 16384

noncomputable section

open Idealize.ShloMosaic Idealize.ShloMosaic.TcCoe Idealize.SL.Sem
open Cert.KernelIdeal Cert.KernelIdeal.Gen

namespace Cert.KernelIdeal.Stage

variable {F : FTy → Type} [FloatOps F]

/-- Slab `g` of 128 stacked slabs lies inside the stack. -/
theorem slab128 : ∀ g : Fin 128, S128x64x128.Slices ![g.val, 0, 0] S1x64x128 := by decide +kernel

/-- Slab `g` of 64 stacked slabs lies inside the stack. -/
theorem slab64 : ∀ g : Fin 64, S64x64x128.Slices ![g.val, 0, 0] S1x64x128 := by decide +kernel

/-- Slabs of 64 rows, 128 of them, make 8192 rows. -/
theorem stacks128 (f : Fin 128 → FVec F S64x128 .f32) : Shape.Concatenates
    ((List.ofFn fun g : Fin 128 => (⟨S64x128, f g⟩ : (s : Shape) × (s.Idx → F .f32))).map (·.1)) S8192x128 0 := by
  have h : (List.ofFn fun g : Fin 128 => (⟨S64x128, f g⟩ : (s : Shape) × (s.Idx → F .f32))).map (·.1)
      = List.replicate 128 S64x128 := by rw [List.map_ofFn]; exact List.ofFn_const _ _
  rw [h]; decide +kernel

/-- Slabs of 64 rows, 64 of them, make 4096 rows. -/
theorem stacks64 (f : Fin 64 → FVec F S64x128 .f32) : Shape.Concatenates
    ((List.ofFn fun g : Fin 64 => (⟨S64x128, f g⟩ : (s : Shape) × (s.Idx → F .f32))).map (·.1)) S4096x128 0 := by
  have h : (List.ofFn fun g : Fin 64 => (⟨S64x128, f g⟩ : (s : Shape) × (s.Idx → F .f32))).map (·.1)
      = List.replicate 64 S64x128 := by rw [List.map_ofFn]; exact List.ofFn_const _ _
  rw [h]; decide +kernel

/-- One weight matrix times slab `g` of a stack of 128. -/
def prod128 (w : Vec F S64x64 .bf16) (T : FVec F S128x64x128 .bf16) (g : Fin 128) : FVec F S64x128 .f32 :=
  matmul dot_S64x64_S64x128_S64x128_1_0_0_1_n_n none (shapeCast S64x64 w shapeCasts_S64x64_S64x64)
    (shapeCast S64x128 (extractStridedSlice S1x64x128 ![g.val, 0, 0] T (slab128 g)) shapeCasts_S1x64x128_S64x128)
    (constant S64x128 .f32 0x00000000#32)

/-- One weight matrix times slab `g` of a stack of 64. -/
def prod64 (w : Vec F S64x64 .bf16) (T : FVec F S64x64x128 .bf16) (g : Fin 64) : FVec F S64x128 .f32 :=
  matmul dot_S64x64_S64x128_S64x128_1_0_0_1_n_n none (shapeCast S64x64 w shapeCasts_S64x64_S64x64)
    (shapeCast S64x128 (extractStridedSlice S1x64x128 ![g.val, 0, 0] T (slab64 g)) shapeCasts_S1x64x128_S64x128)
    (constant S64x128 .f32 0x00000000#32)

/-- The three taps' products of slab `g`, added in order (128 slabs). -/
def group128 (w0 w1 w2 : Vec F S64x64 .bf16) (T0 T1 T2 : FVec F S128x64x128 .bf16) (g : Fin 128) : FVec F S64x128 .f32 :=
  addf (addf (prod128 w0 T0 g) (prod128 w1 T1 g)) (prod128 w2 T2 g)

/-- The three taps' products of slab `g`, added in order (64 slabs). -/
def group64 (w0 w1 w2 : Vec F S64x64 .bf16) (T0 T1 T2 : FVec F S64x64x128 .bf16) (g : Fin 64) : FVec F S64x128 .f32 :=
  addf (addf (prod64 w0 T0 g) (prod64 w1 T1 g)) (prod64 w2 T2 g)

/-- The 128 groups one under the other. -/
def stack128 (f : Fin 128 → FVec F S64x128 .f32) : FVec F S8192x128 .f32 :=
  concatenate S8192x128 0 (List.ofFn fun g : Fin 128 => ⟨S64x128, f g⟩) (stacks128 f)

/-- The 64 groups one under the other. -/
def stack64 (f : Fin 64 → FVec F S64x128 .f32) : FVec F S4096x128 .f32 :=
  concatenate S4096x128 0 (List.ofFn fun g : Fin 64 => ⟨S64x128, f g⟩) (stacks64 f)

/-- The first stage from its stacked products: bias, rectifier, and the sum over the four reads of each allele. -/
def readSum (s : FVec F S8192x128 .f32) (b : Vec F S8x1 .f32) : FVec F S256x8x128 .f32 :=
  multiReduction .add [1] S256x8x128 (shapeCast S256x4x8x128 (maximumf
    (addf (shapeCast S1024x8x128 s shapeCasts_S8192x128_S1024x8x128)
      (broadcastTo S1024x8x128 (shapeCast S1x8x1 (shapeCast S8x1 b shapeCasts_S8x1_S8x1) shapeCasts_S8x1_S1x8x1)
        broadcasts_S1x8x1_S1024x8x128))
    (broadcast S1024x8x128 (Scalar.ofBits .f32 0x00000000#32))) shapeCasts_S1024x8x128_S256x4x8x128)
    0x00000000#32 reduces_S256x4x8x128_S256x8x128 (.inl rfl) rfl

/-- The first stage on one block of reads. -/
def first (w0 w1 w2 : Vec F S64x64 .bf16) (b : Vec F S8x1 .f32) (x : Vec F S1024x8x128 .f32) : FVec F S256x8x128 .f32 :=
  readSum (stack128 (group128 w0 w1 w2 (k0_pay3 x) (k0_pay4 x) (k0_pay5 x))) b

/-- The two technologies' channels side by side, narrowed. -/
def joinedBlock (r0 r1 : FVec F S256x8x128 .f32) : FVec F S256x16x128 .bf16 :=
  truncf .bf16 (concatenate S256x16x128 1 [⟨S256x8x128, r0⟩, ⟨S256x8x128, r1⟩]
    concatenates_S256x8x128_S256x8x128_S256x16x128_d1) bitsLt_bf16_f32

/-- The joined channels shifted right by one position. -/
def right (x : FVec F S256x16x128 .bf16) : FVec F S64x64x128 .bf16 :=
  k0_pay439 k0_pay437 (extractStridedSlice S256x16x127 ![0, 0, 0] x slices_S256x16x128_o0_0_0_S256x16x127)

/-- The second stage from its stacked products: the bias added. -/
def biased (s : FVec F S4096x128 .f32) (b : Vec F S16x1 .f32) : FVec F S256x16x128 .f32 :=
  addf (shapeCast S256x16x128 s shapeCasts_S4096x128_S256x16x128)
    (broadcastTo S256x16x128 (shapeCast S1x16x1 (shapeCast S16x1 b shapeCasts_S16x1_S16x1) shapeCasts_S16x1_S1x16x1)
      broadcasts_S1x16x1_S256x16x128)

/-- The second stage on one block of alleles' joined channels. -/
def second (w0 w1 w2 : Vec F S64x64 .bf16) (b : Vec F S16x1 .f32) (x : FVec F S256x16x128 .bf16) : FVec F S256x16x128 .f32 :=
  biased (stack64 (group64 w0 w1 w2 (right x) (k0_pay440 x) (k0_pay441 x k0_pay437))) b

/-- What one grid point stores, from the blocks it reads. -/
def out (x0 x1 : Vec F S1024x8x128 .f32) (x2 x3 x4 x5 x6 x7 x8 x9 x10 : Vec F S64x64 .bf16) (x11 x12 : Vec F S8x1 .f32)
    (x13 x14 : Vec F S16x1 .f32) (x15 : Elt F .f32) : FVec F S1x1x256 .f32 :=
  k0_pay545 (second x8 x9 x10 x13 (joinedBlock (first x2 x3 x4 x11 x0) (first x5 x6 x7 x12 x1)))
    (Scalar.ofBits .f32 0x00000000#32) x14 x15

end Cert.KernelIdeal.Stage

end
-- ==== Proof.Point.lean ====
module
public import proofs.«01_k».proof.Proof.Gen.KernelIdeal.Frame
public import proofs.«01_k».proof.Proof.Stage
public import Idealize.ShloMosaic.Lib.Pipeline.ValueKit

@[expose] public section
/-!
What the kernel's body stores at one grid point, as one function of the blocks it reads.
-/

set_option maxRecDepth 16384
noncomputable section
open Idealize.ShloMosaic Idealize.ShloMosaic.TcCoe Idealize.SL.Sem
open Idealize.ShloMosaic.Pipeline (Dat)
open Cert.KernelIdeal Cert.KernelIdeal.Gen
namespace Cert.KernelIdeal.Value
variable {F : FTy → Type} [FloatOps F]
variable (m : (ℓ : Loc nD τ sig) → Buf (Elt F) ℓ)

-- the body writes out 320 groups of three products each, and each is compared with the one function it is an instance of
set_option maxHeartbeats 4000000 in
/-- At every grid point the output's buffer holds `Stage.out` of the point's input blocks. -/
theorem outs_eq (c : Dev nD) (t : Fin cfg0.N) : outsAt0 m c t = Stage.out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((iblk m c 15 t : Vec F S1 .f32) (ix1 0)) := by
  unfold outsAt0
  frame_out
  have h : View.ld (iblk m c 15 t) (Rect.unit ![0] ![1] inb_S1_S1_0) (Shape.Idx.first (Nat.one_pos)) = (iblk m c 15 t : Vec F S1 .f32) (ix1 0) := by pointwise
  rw [h]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize (iblk m c 15 t : Vec F S1 .f32) (ix1 0) = x15
  unfold Stage.out
  refine congrArg (fun z => k0_pay545 z _ _ _) ?_
  rfl
end Cert.KernelIdeal.Value
end
-- ==== Proof.StageRead.lean ====
module
public import proofs.«01_k».proof.Proof.Stage

@[expose] public section

set_option maxRecDepth 16384

noncomputable section

open Idealize.ShloMosaic Idealize.ShloMosaic.TcCoe Idealize.SL.Sem
open Cert.KernelIdeal Cert.KernelIdeal.Gen Cert.Spec

namespace Cert.KernelIdeal.Stage

/-- The stacked rows shifted right by one: group `g`, row `8 q + c` is channel `c` of read `8 g + q`, tap 0. -/
theorem pay3_read (x : FVec Ideal S1024x8x128 .f32) (g : Fin 128) (q c : Fin 8) (l : Fin 128) :
    k0_pay3 (F := Ideal) x (ix3 g (⟨q.val * 8 + c.val, by omega⟩ : Fin 64) l)
      = tap (fun l => x (ix3 (⟨g.val * 8 + q.val, by omega⟩ : Fin 1024) c l)) 0 l := by
  unfold tap
  pointwise [k0_pay3, k0_pay1, k0_pay2]
  have e : (q.val * 8 + c.val) / 8 = q.val := by omega
  simp only [e]

/-- The stacked rows unshifted: group `g`, row `8 q + c` is channel `c` of read `8 g + q`, tap 1. -/
theorem pay4_read (x : FVec Ideal S1024x8x128 .f32) (g : Fin 128) (q c : Fin 8) (l : Fin 128) :
    k0_pay4 (F := Ideal) x (ix3 g (⟨q.val * 8 + c.val, by omega⟩ : Fin 64) l)
      = tap (fun l => x (ix3 (⟨g.val * 8 + q.val, by omega⟩ : Fin 1024) c l)) 1 l := by
  unfold tap
  pointwise [k0_pay4, k0_pay1]
  have e : (q.val * 8 + c.val) / 8 = q.val := by omega
  simp only [e]

/-- The stacked rows shifted left by one: group `g`, row `8 q + c` is channel `c` of read `8 g + q`, tap 2. -/
theorem pay5_read (x : FVec Ideal S1024x8x128 .f32) (g : Fin 128) (q c : Fin 8) (l : Fin 128) :
    k0_pay5 (F := Ideal) x (ix3 g (⟨q.val * 8 + c.val, by omega⟩ : Fin 64) l)
      = tap (fun l => x (ix3 (⟨g.val * 8 + q.val, by omega⟩ : Fin 1024) c l)) 2 l := by
  unfold tap
  pointwise [k0_pay5, k0_pay1, k0_pay2]
  have e : (q.val * 8 + c.val) / 8 = q.val := by omega
  simp only [e, Nat.add_comm 1]

/-- The product of a weight matrix with one of 128 groups is the sum over its 64 rows. -/
theorem prod128_read (w : FVec Ideal S64x64 .bf16) (T : FVec Ideal S128x64x128 .bf16) (g : Fin 128) (r : Fin 64) (l : Fin 128) :
    prod128 (F := Ideal) w T g (ix2 r l) = ∑ j : Fin 64, w (ix2 r j) * T (ix3 g j l) := by
  pointwise [prod128]

/-- Row `64 g + r` of the 128 stacked products is row `r` of product `g`. -/
theorem stack128_read (f : Fin 128 → FVec Ideal S64x128 .f32) (g : Fin 128) (r : Fin 64) (l : Fin 128) :
    stack128 (F := Ideal) f (ix2 (⟨g.val * 64 + r.val, by omega⟩ : Fin 8192) l) = f g (ix2 r l) := by
  refine concatenate_ofFn_apply (t := S8192x128) (s₁ := S64x128) 0 f (stacks128 f) rfl 64 rfl _ g ?_ _ ?_ ?_
  · show (g.val * 64 + r.val) / 64 = g.val
    omega
  · show r.val = (g.val * 64 + r.val) % 64
    omega
  · intro b hb
    match b with
    | ⟨0, _⟩ => exact absurd rfl hb
    | ⟨1, _⟩ => rfl

/-- The sum over the four reads of an allele of the biased, clamped rows. -/
theorem readSum_read (s : FVec Ideal S8192x128 .f32) (b : FVec Ideal S8x1 .f32) (a : Fin 256) (f : Fin 8) (l : Fin 128) :
    readSum (F := Ideal) s b (ix3 a f l) = ∑ q : Fin 4, max (s (ix2 (⟨(a.val * 4 + q.val) * 8 + f.val, by omega⟩ : Fin 8192) l) + b (ix2 f 0)) 0 := by
  pointwise [readSum]

/-- The joined rows shifted right by one: group `g`, row `16 q + c` is channel `c` of allele `4 g + q`, tap 0. -/
theorem right_read (x : FVec Ideal S256x16x128 .bf16) (g : Fin 64) (q : Fin 4) (c : Fin 16) (l : Fin 128) :
    right (F := Ideal) x (ix3 g (⟨q.val * 16 + c.val, by omega⟩ : Fin 64) l)
      = tap (fun l => x (ix3 (⟨g.val * 4 + q.val, by omega⟩ : Fin 256) c l)) 0 l := by
  unfold tap
  pointwise [right, k0_pay439, k0_pay437]
  have e : (q.val * 16 + c.val) / 16 = q.val := by omega
  simp only [e]

/-- The joined rows unshifted: group `g`, row `16 q + c` is channel `c` of allele `4 g + q`, tap 1. -/
theorem pay440_read (x : FVec Ideal S256x16x128 .bf16) (g : Fin 64) (q : Fin 4) (c : Fin 16) (l : Fin 128) :
    k0_pay440 (F := Ideal) x (ix3 g (⟨q.val * 16 + c.val, by omega⟩ : Fin 64) l)
      = tap (fun l => x (ix3 (⟨g.val * 4 + q.val, by omega⟩ : Fin 256) c l)) 1 l := by
  unfold tap
  pointwise [k0_pay440]
  have e : (q.val * 16 + c.val) / 16 = q.val := by omega
  simp only [e]

/-- The joined rows shifted left by one: group `g`, row `16 q + c` is channel `c` of allele `4 g + q`, tap 2. -/
theorem pay441_read (x : FVec Ideal S256x16x128 .bf16) (g : Fin 64) (q : Fin 4) (c : Fin 16) (l : Fin 128) :
    k0_pay441 (F := Ideal) x k0_pay437 (ix3 g (⟨q.val * 16 + c.val, by omega⟩ : Fin 64) l)
      = tap (fun l => x (ix3 (⟨g.val * 4 + q.val, by omega⟩ : Fin 256) c l)) 2 l := by
  unfold tap
  pointwise [k0_pay441, k0_pay437]
  have e : (q.val * 16 + c.val) / 16 = q.val := by omega
  simp only [e, Nat.add_comm 1]

/-- The product of a weight matrix with one of 64 groups is the sum over its 64 rows. -/
theorem prod64_read (w : FVec Ideal S64x64 .bf16) (T : FVec Ideal S64x64x128 .bf16) (g : Fin 64) (r : Fin 64) (l : Fin 128) :
    prod64 (F := Ideal) w T g (ix2 r l) = ∑ j : Fin 64, w (ix2 r j) * T (ix3 g j l) := by
  pointwise [prod64]

/-- Row `64 g + r` of the 64 stacked products is row `r` of product `g`. -/
theorem stack64_read (f : Fin 64 → FVec Ideal S64x128 .f32) (g : Fin 64) (r : Fin 64) (l : Fin 128) :
    stack64 (F := Ideal) f (ix2 (⟨g.val * 64 + r.val, by omega⟩ : Fin 4096) l) = f g (ix2 r l) := by
  refine concatenate_ofFn_apply (t := S4096x128) (s₁ := S64x128) 0 f (stacks64 f) rfl 64 rfl _ g ?_ _ ?_ ?_
  · show (g.val * 64 + r.val) / 64 = g.val
    omega
  · show r.val = (g.val * 64 + r.val) % 64
    omega
  · intro b hb
    match b with
    | ⟨0, _⟩ => exact absurd rfl hb
    | ⟨1, _⟩ => rfl

/-- The stacked products of the second layer, regrouped by allele and channel, with the bias added. -/
theorem biased_read (s : FVec Ideal S4096x128 .f32) (b : FVec Ideal S16x1 .f32) (a : Fin 256) (f : Fin 16) (l : Fin 128) :
    biased (F := Ideal) s b (ix3 a f l) = s (ix2 (⟨a.val * 16 + f.val, by omega⟩ : Fin 4096) l) + b (ix2 f 0) := by
  pointwise [biased]

/-- The block of joined reductions: the first eight channels of one technology, then the eight of the other. -/
theorem joinedBlock_read (r0 r1 : FVec Ideal S256x8x128 .f32) (a : Fin 256) (g : Fin 16) (l : Fin 128) :
    joinedBlock (F := Ideal) r0 r1 (ix3 a g l) = joined (fun f l => r0 (ix3 a f l)) (fun f l => r1 (ix3 a f l)) g l := by
  unfold joined
  pointwise [joinedBlock]

/-- The word the mean divides by is 128. -/
theorem bits_128 : Ideal.ofBits .f32 0x43000000#32 = ((128 : ℝ) : EReal) := by
  simp [Ideal.ofBits, Ideal.ieee, -EReal.coe_mul]
  norm_num

/-- The word the maximum starts from is the least value. -/
theorem bits_bot : Ideal.ofBits .f32 0xFF800000#32 = ⊥ := by simp [Ideal.ofBits, Ideal.ieee]

/-- The stored row: at each allele the log-softmax, over the four of its site, of the weighted and averaged channels. -/
theorem pay545_read (h : FVec Ideal S256x16x128 .f32) (wo : FVec Ideal S16x1 .f32) (bo : EReal) (s : Fin 64) (q : Fin 4) :
    k0_pay545 (F := Ideal) h (Scalar.ofBits .f32 0x00000000#32) wo bo (ix3 0 0 (⟨s.val * 4 + q.val, by omega⟩ : Fin 256))
      = logsoft (fun p => bo + Ideal.div (∑ l : Fin 128, ∑ g : Fin 16,
          max (h (ix3 (⟨s.val * 4 + p.val, by omega⟩ : Fin 256) g l)) 0 * wo (ix2 g 0)) ((128 : ℝ) : EReal)) q := by
  unfold logsoft top
  pointwise [k0_pay545]
  rw [bits_128, bits_bot]

/-- The 64×64 matrix `w` carries `W` in each of its eight diagonal 8×8 blocks, and zero times it elsewhere. -/
def Kron8 (w : FVec Ideal S64x64 .bf16) (W : Fin 8 → Fin 8 → EReal) : Prop :=
  ∀ q f q' c : Fin 8, w (ix2 (⟨q.val * 8 + f.val, by omega⟩ : Fin 64) (⟨q'.val * 8 + c.val, by omega⟩ : Fin 64))
    = (if q = q' then 1 else 0) * W f c

/-- The 64×64 matrix `w` carries `W` in each of its four diagonal 16×16 blocks, and zero times it elsewhere. -/
def Kron16 (w : FVec Ideal S64x64 .bf16) (W : Fin 16 → Fin 16 → EReal) : Prop :=
  ∀ (q : Fin 4) (f : Fin 16) (q' : Fin 4) (c : Fin 16),
    w (ix2 (⟨q.val * 16 + f.val, by omega⟩ : Fin 64) (⟨q'.val * 16 + c.val, by omega⟩ : Fin 64))
      = (if q = q' then 1 else 0) * W f c

/-- A matrix carrying `W` carries any equal matrix of weights. -/
theorem Kron8.of_eq {w : FVec Ideal S64x64 .bf16} {W W' : Fin 8 → Fin 8 → EReal} (h : Kron8 w W) (e : ∀ f c, W f c = W' f c) :
    Kron8 w W' := fun q f q' c => by rw [← e]; exact h q f q' c

/-- A matrix carrying `W` carries any equal matrix of weights. -/
theorem Kron16.of_eq {w : FVec Ideal S64x64 .bf16} {W W' : Fin 16 → Fin 16 → EReal} (h : Kron16 w W) (e : ∀ f c, W f c = W' f c) :
    Kron16 w W' := fun q f q' c => by rw [← e]; exact h q f q' c

/-- A product with a matrix carrying `W` in eight blocks sums over the eight channels of one read only. -/
theorem prod128_kron (w : FVec Ideal S64x64 .bf16) (W : Fin 8 → Fin 8 → EReal) (hw : Kron8 w W)
    (T : FVec Ideal S128x64x128 .bf16) (g : Fin 128) (q f : Fin 8) (l : Fin 128) :
    prod128 (F := Ideal) w T g (ix2 (⟨q.val * 8 + f.val, by omega⟩ : Fin 64) l)
      = ∑ c : Fin 8, W f c * T (ix3 g (⟨q.val * 8 + c.val, by omega⟩ : Fin 64) l) := by
  rw [prod128_read]
  exact collapse 8 8 _ (fun j : Fin 64 => T (ix3 g j l)) q (W f) (fun _ _ => by omega) (fun q' c => hw q f q' c)

/-- A product with a matrix carrying `W` in four blocks sums over the sixteen channels of one allele only. -/
theorem prod64_kron (w : FVec Ideal S64x64 .bf16) (W : Fin 16 → Fin 16 → EReal) (hw : Kron16 w W)
    (T : FVec Ideal S64x64x128 .bf16) (g : Fin 64) (q : Fin 4) (f : Fin 16) (l : Fin 128) :
    prod64 (F := Ideal) w T g (ix2 (⟨q.val * 16 + f.val, by omega⟩ : Fin 64) l)
      = ∑ c : Fin 16, W f c * T (ix3 g (⟨q.val * 16 + c.val, by omega⟩ : Fin 64) l) := by
  rw [prod64_read]
  exact collapse 4 16 _ (fun j : Fin 64 => T (ix3 g j l)) q (W f) (fun _ _ => by omega) (fun q' c => hw q f q' c)

/-- The first stage on a block of reads: channel `f` of allele `a` at position `l` is the sum over the
    allele's four reads of the first layer. -/
theorem first_read (w0 w1 w2 : FVec Ideal S64x64 .bf16) (b : FVec Ideal S8x1 .f32) (x : FVec Ideal S1024x8x128 .f32)
    (W : Fin 8 → Fin 8 → Fin 3 → EReal)
    (h0 : Kron8 w0 fun f c => W f c 0) (h1 : Kron8 w1 fun f c => W f c 1) (h2 : Kron8 w2 fun f c => W f c 2)
    (a : Fin 256) (f : Fin 8) (l : Fin 128) :
    first (F := Ideal) w0 w1 w2 b x (ix3 a f l)
      = allele W (fun f => b (ix2 f 0)) (fun q c l => x (ix3 (⟨a.val * 4 + q.val, by omega⟩ : Fin 1024) c l)) f l := by
  unfold first
  rw [readSum_read]
  unfold allele layer conv
  refine Finset.sum_congr rfl fun q _ => ?_
  congr 2
  have ha := a.isLt
  have hf := f.isLt
  have hq := q.isLt
  have e : (⟨(a.val * 4 + q.val) * 8 + f.val, by omega⟩ : Fin 8192)
      = ⟨(⟨(a.val * 4 + q.val) / 8, by omega⟩ : Fin 128).val * 64
          + (⟨(⟨(a.val * 4 + q.val) % 8, by omega⟩ : Fin 8).val * 8 + f.val, by dsimp only; omega⟩ : Fin 64).val,
          by dsimp only; omega⟩ := Fin.ext (by dsimp only; omega)
  rw [e, stack128_read]
  have en : (⟨(a.val * 4 + q.val) / 8 * 8 + (a.val * 4 + q.val) % 8, by omega⟩ : Fin 1024)
      = ⟨a.val * 4 + q.val, by omega⟩ := Fin.ext (by dsimp only; omega)
  show (prod128 _ _ _ _ + prod128 _ _ _ _) + prod128 _ _ _ _ = _
  rw [prod128_kron _ _ h0, prod128_kron _ _ h1, prod128_kron _ _ h2]
  refine congrArg₂ _ (congrArg₂ _ ?_ ?_) ?_ <;> refine Finset.sum_congr rfl fun c _ => congrArg _ ?_
  · exact (pay3_read x _ _ c l).trans (by simp only [en])
  · exact (pay4_read x _ _ c l).trans (by simp only [en])
  · exact (pay5_read x _ _ c l).trans (by simp only [en])

/-- The second stage: channel `f` of allele `a` at position `l` is the second convolution with its bias. -/
theorem second_read (w0 w1 w2 : FVec Ideal S64x64 .bf16) (b : FVec Ideal S16x1 .f32) (x : FVec Ideal S256x16x128 .bf16)
    (W : Fin 16 → Fin 16 → Fin 3 → EReal)
    (h0 : Kron16 w0 fun f c => W f c 0) (h1 : Kron16 w1 fun f c => W f c 1) (h2 : Kron16 w2 fun f c => W f c 2)
    (a : Fin 256) (f : Fin 16) (l : Fin 128) :
    second (F := Ideal) w0 w1 w2 b x (ix3 a f l) = conv (W f) (fun c l => x (ix3 a c l)) l + b (ix2 f 0) := by
  unfold second
  rw [biased_read]
  unfold conv
  congr 1
  have ha := a.isLt
  have hf := f.isLt
  have e : (⟨a.val * 16 + f.val, by omega⟩ : Fin 4096)
      = ⟨(⟨a.val / 4, by omega⟩ : Fin 64).val * 64
          + (⟨(⟨a.val % 4, by omega⟩ : Fin 4).val * 16 + f.val, by dsimp only; omega⟩ : Fin 64).val,
          by dsimp only; omega⟩ := Fin.ext (by dsimp only; omega)
  rw [e, stack64_read]
  have en : (⟨a.val / 4 * 4 + a.val % 4, by omega⟩ : Fin 256) = a := Fin.ext (by dsimp only; omega)
  show (prod64 _ _ _ _ + prod64 _ _ _ _) + prod64 _ _ _ _ = _
  rw [prod64_kron _ _ h0, prod64_kron _ _ h1, prod64_kron _ _ h2]
  refine congrArg₂ _ (congrArg₂ _ ?_ ?_) ?_ <;> refine Finset.sum_congr rfl fun c _ => congrArg _ ?_
  · exact (right_read x _ _ c l).trans (by simp only [en])
  · exact (pay440_read x _ _ c l).trans (by simp only [en])
  · exact (pay441_read x _ _ c l).trans (by simp only [en])

/-- The score of allele `a` of a block. -/
def blockScore (W0 W1 : Fin 8 → Fin 8 → Fin 3 → EReal) (W2 : Fin 16 → Fin 16 → Fin 3 → EReal)
    (b0 b1 : Fin 8 → EReal) (b2 wo : Fin 16 → EReal) (bo : EReal) (x0 x1 : FVec Ideal S1024x8x128 .f32) (a : Fin 256) : EReal :=
  score W2 b2 wo bo (joined
    (allele W0 b0 fun q c l => x0 (ix3 (⟨a.val * 4 + q.val, by omega⟩ : Fin 1024) c l))
    (allele W1 b1 fun q c l => x1 (ix3 (⟨a.val * 4 + q.val, by omega⟩ : Fin 1024) c l)))

/-- What one grid step stores: at place `4·s + q` of its 256 alleles, the log-softmax over the four alleles of
    the site `s` of their scores. -/
theorem out_read (x0 x1 : FVec Ideal S1024x8x128 .f32) (x2 x3 x4 x5 x6 x7 x8 x9 x10 : FVec Ideal S64x64 .bf16)
    (x11 x12 : FVec Ideal S8x1 .f32) (x13 x14 : FVec Ideal S16x1 .f32) (x15 : EReal)
    (W0 W1 : Fin 8 → Fin 8 → Fin 3 → EReal) (W2 : Fin 16 → Fin 16 → Fin 3 → EReal)
    (h2 : Kron8 x2 fun f c => W0 f c 0) (h3 : Kron8 x3 fun f c => W0 f c 1) (h4 : Kron8 x4 fun f c => W0 f c 2)
    (h5 : Kron8 x5 fun f c => W1 f c 0) (h6 : Kron8 x6 fun f c => W1 f c 1) (h7 : Kron8 x7 fun f c => W1 f c 2)
    (h8 : Kron16 x8 fun f c => W2 f c 0) (h9 : Kron16 x9 fun f c => W2 f c 1) (h10 : Kron16 x10 fun f c => W2 f c 2)
    (s : Fin 64) (q : Fin 4) :
    out (F := Ideal) x0 x1 x2 x3 x4 x5 x6 x7 x8 x9 x10 x11 x12 x13 x14 x15
        (ix3 0 0 (⟨s.val * 4 + q.val, by omega⟩ : Fin 256))
      = logsoft (fun p => blockScore W0 W1 W2 (fun f => x11 (ix2 f 0)) (fun f => x12 (ix2 f 0)) (fun f => x13 (ix2 f 0))
          (fun f => x14 (ix2 f 0)) x15 x0 x1 ⟨s.val * 4 + p.val, by omega⟩) q := by
  unfold out
  rw [pay545_read]
  congr 1
  funext p
  unfold blockScore score
  refine (add_comm _ _).trans (congrArg₂ (· + ·) (Eq.trans ?_ (mean_form _ ?_ _)) rfl)
  swap
  · exact fun g l => le_max_right _ _
  refine congrArg₂ Ideal.div ?_ rfl
  refine Finset.sum_congr rfl fun l _ => Finset.sum_congr rfl fun g _ => ?_
  rw [second_read _ _ _ _ _ _ h8 h9 h10]
  unfold layer
  congr 4
  funext c l'
  rw [joinedBlock_read]
  congr 1
  · funext f l''; exact first_read _ _ _ _ _ _ h2 h3 h4 _ _ _
  · funext f l''; exact first_read _ _ _ _ _ _ h5 h6 h7 _ _ _

end Cert.KernelIdeal.Stage

end
-- ==== Proof.HostRead.lean ====
module
public import proofs.«01_k».proof.Proof.Gen.KernelIdeal.Frame
public import proofs.«01_k».proof.Proof.StageRead
public import Idealize.ShloMosaic.Lib.Pipeline.ValueKit

@[expose] public section
/-!
The arrays the host computes before the region, read at an index over the extended reals: the nine block-diagonal
weight matrices and the five reshaped vectors.
-/
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.KernelIdeal.Value

/-- The Kronecker product of the 8×8 identity and an 8×8 matrix, as the host computes it. -/
def kron8 (v : FVec Ideal S8x8 .bf16) : FVec Ideal S64x64 .bf16 :=
  shapeCast S64x64 (mulf
    (broadcastInDim S8x8x8x8 ![0, 1, 2, 3] bcast_S8x1x8x1_S8x8x8x8_0_1_2_3 (broadcastInDim S8x1x8x1 ![0, 2] bcast_S8x8_S8x1x8x1_0_2
      (uitofp (F := Ideal) .bf16 (cmpi .eq
        (addi (iotaInDim S8x8 32 0) (broadcastInDim S8x8 ![] bcast_S_S8x8 (constantI S_ 32 0#32))) (iotaInDim S8x8 32 1)))))
    (broadcastInDim S8x8x8x8 ![0, 1, 2, 3] bcast_S1x8x1x8_S8x8x8x8_0_1_2_3 (broadcastInDim S1x8x1x8 ![1, 3] bcast_S8x8_S1x8x1x8_1_3 v)))
    shapeCasts_S8x8x8x8_S64x64

/-- The Kronecker product of the 4×4 identity and a 16×16 matrix, as the host computes it. -/
def kron16 (v : FVec Ideal S16x16 .bf16) : FVec Ideal S64x64 .bf16 :=
  shapeCast S64x64 (mulf
    (broadcastInDim S4x16x4x16 ![0, 1, 2, 3] bcast_S4x1x4x1_S4x16x4x16_0_1_2_3 (broadcastInDim S4x1x4x1 ![0, 2] bcast_S4x4_S4x1x4x1_0_2
      (uitofp (F := Ideal) .bf16 (cmpi .eq
        (addi (iotaInDim S4x4 32 0) (broadcastInDim S4x4 ![] bcast_S_S4x4 (constantI S_ 32 0#32))) (iotaInDim S4x4 32 1)))))
    (broadcastInDim S4x16x4x16 ![0, 1, 2, 3] bcast_S1x16x1x16_S4x16x4x16_0_1_2_3 (broadcastInDim S1x16x1x16 ![1, 3] bcast_S16x16_S1x16x1x16_1_3 v)))
    shapeCasts_S4x16x4x16_S64x64

/-- The Kronecker product with the identity carries its matrix in each diagonal 8×8 block. -/
theorem kron8_read (v : FVec Ideal S8x8 .bf16) : Stage.Kron8 (kron8 v) fun f k => v (ix2 f k) := by
  intro q f q' k
  pointwise [kron8]
  have e : IntOp.cmpi .eq (IntOp.addi (BitVec.ofNat 32 q.val) 0#32) (BitVec.ofNat 32 q'.val) = if q = q' then 1#1 else 0#1 := by
    revert q q'; decide
  rw [e]
  split <;> simp [FloatOps.uitofp]

/-- The Kronecker product with the identity carries its matrix in each diagonal 16×16 block. -/
theorem kron16_read (v : FVec Ideal S16x16 .bf16) : Stage.Kron16 (kron16 v) fun f k => v (ix2 f k) := by
  intro q f q' k
  pointwise [kron16]
  have e : IntOp.cmpi .eq (IntOp.addi (BitVec.ofNat 32 q.val) 0#32) (BitVec.ofNat 32 q'.val) = if q = q' then 1#1 else 0#1 := by
    revert q q'; decide
  rw [e]
  split <;> simp [FloatOps.uitofp]

/-- A tap sliced out of a 8×8×3 array of weights, rounded, and made block-diagonal. -/
theorem tap8 (x : FVec Ideal S8x8x3 .f32) (k : Fin 3) (hs : S8x8x3.Slices ![0, 0, k.val] S8x8x1) :
    Stage.Kron8 (kron8 (truncf .bf16 (shapeCast S8x8 (extractStridedSlice S8x8x1 ![0, 0, k.val] x hs)
      shapeCasts_S8x8x1_S8x8) bitsLt_bf16_f32)) fun f j => x (ix3 f j k) := by
  refine Stage.Kron8.of_eq (kron8_read _) fun f j => ?_
  pointwise

/-- A tap sliced out of a 16×16×3 array of weights, rounded, and made block-diagonal. -/
theorem tap16 (x : FVec Ideal S16x16x3 .f32) (k : Fin 3) (hs : S16x16x3.Slices ![0, 0, k.val] S16x16x1) :
    Stage.Kron16 (kron16 (truncf .bf16 (shapeCast S16x16 (extractStridedSlice S16x16x1 ![0, 0, k.val] x hs)
      shapeCasts_S16x16x1_S16x16) bitsLt_bf16_f32)) fun f j => x (ix3 f j k) := by
  refine Stage.Kron16.of_eq (kron16_read _) fun f j => ?_
  pointwise

variable (m : (ℓ : Loc nD τ sig) → Buf (Elt Ideal) ℓ)

/-- The nine matrices of weights when the region starts: the three taps of each of the three convolutions, block-diagonally. -/
theorem taps (c : Dev nD) :
    let W0 : FVec Ideal S8x8x3 .f32 := m ((c : Thread nD τ).loc main_arg5)
    let W1 : FVec Ideal S8x8x3 .f32 := m ((c : Thread nD τ).loc main_arg7)
    let W2 : FVec Ideal S16x16x3 .f32 := m ((c : Thread nD τ).loc main_arg9)
    (Stage.Kron8 (V m c main_v9) (fun f j => W0 (ix3 f j 0)) ∧ Stage.Kron8 (V m c main_v19) (fun f j => W0 (ix3 f j 1))
      ∧ Stage.Kron8 (V m c main_v29) (fun f j => W0 (ix3 f j 2)))
    ∧ (Stage.Kron8 (V m c main_v39) (fun f j => W1 (ix3 f j 0)) ∧ Stage.Kron8 (V m c main_v49) (fun f j => W1 (ix3 f j 1))
      ∧ Stage.Kron8 (V m c main_v59) (fun f j => W1 (ix3 f j 2)))
    ∧ (Stage.Kron16 (V m c main_v69) (fun f j => W2 (ix3 f j 0)) ∧ Stage.Kron16 (V m c main_v79) (fun f j => W2 (ix3 f j 1))
      ∧ Stage.Kron16 (V m c main_v89) (fun f j => W2 (ix3 f j 2))) := by
  intro W0 W1 W2
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil]
  entry_read
  have h0 := tap8 W0 0 slices_S8x8x3_S8x8x1_0_0_0
  have h1 := tap8 W0 1 slices_S8x8x3_S8x8x1_0_0_1
  have h2 := tap8 W0 2 slices_S8x8x3_S8x8x1_0_0_2
  have h3 := tap8 W1 0 slices_S8x8x3_S8x8x1_0_0_0
  have h4 := tap8 W1 1 slices_S8x8x3_S8x8x1_0_0_1
  have h5 := tap8 W1 2 slices_S8x8x3_S8x8x1_0_0_2
  have h6 := tap16 W2 0 slices_S16x16x3_S16x16x1_0_0_0
  have h7 := tap16 W2 1 slices_S16x16x3_S16x16x1_0_0_1
  have h8 := tap16 W2 2 slices_S16x16x3_S16x16x1_0_0_2
  exact ⟨⟨h0, h1, h2⟩, ⟨h3, h4, h5⟩, h6, h7, h8⟩

/-- The five vectors when the region starts: the biases and the output weights as columns, the output bias as a vector of
    one element. -/
theorem cols (c : Dev nD) :
    (V m c main_v90 : FVec Ideal S8x1 .f32) = shapeCast S8x1 (m ((c : Thread nD τ).loc main_arg6) : FVec Ideal S8 .f32) shapeCasts_S8_S8x1
    ∧ (V m c main_v91 : FVec Ideal S8x1 .f32) = shapeCast S8x1 (m ((c : Thread nD τ).loc main_arg8) : FVec Ideal S8 .f32) shapeCasts_S8_S8x1
    ∧ (V m c main_v92 : FVec Ideal S16x1 .f32) = shapeCast S16x1 (m ((c : Thread nD τ).loc main_arg10) : FVec Ideal S16 .f32) shapeCasts_S16_S16x1
    ∧ (V m c main_v93 : FVec Ideal S16x1 .f32) = shapeCast S16x1 (m ((c : Thread nD τ).loc main_arg11) : FVec Ideal S16 .f32) shapeCasts_S16_S16x1
    ∧ (V m c main_v94 : FVec Ideal S1 .f32) = shapeCast S1 (m ((c : Thread nD τ).loc main_arg12) : FVec Ideal S_ .f32) shapeCasts_S_S1 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil]
  entry_read
  exact ⟨rfl, rfl, rfl, rfl, rfl⟩

end Cert.KernelIdeal.Value
end
-- ==== Proof.Blocks.lean ====
module
public import proofs.«01_k».proof.Proof.Gen.KernelIdeal.Frame
public import Idealize.ShloMosaic.Lib.Pipeline.ValueKit

@[expose] public section
/-!
The blocks the kernel's windows show at a grid point, as parts of the arrays the region starts from.
-/
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.KernelIdeal.Value
variable (m : (ℓ : Loc nD τ sig) → Buf (Elt Ideal) ℓ)

/-- Which block each window shows at each grid point: the reads and the result move, the rest stays. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0] ∧ win0_16.index t = ![t.val, 0, 0] :=
  (by decide +kernel : ∀ t : Fin grid0.N, _)

section blocks
variable (c : Dev nD) (t : Fin cfg0.N)

/-- The block of reads of technology 0 at a grid point: 1024 consecutive reads of the argument array. -/
theorem reads0 (n : Fin 1024) (k : Fin 8) (l : Fin 128) : (iblk m c 0 t : FVec Ideal S1024x8x128 .f32) (ix3 n k l)
    = (m ((c : Thread nD τ).loc main_arg0) : FVec Ideal S16384x8x128 .f32)
        (ix3 (⟨t.val * 1024 + n.val, by have : t.val < 16 := t.isLt; omega⟩ : Fin 16384) k l) := by
  refine Eq.trans ?_ (congrFun (V_main_arg0 m c) _)
  have h := (idx t).1
  blk_ext [iblk, h]

/-- The block of reads of technology 1 at a grid point: 1024 consecutive reads of the argument array. -/
theorem reads1 (n : Fin 1024) (k : Fin 8) (l : Fin 128) : (iblk m c 1 t : FVec Ideal S1024x8x128 .f32) (ix3 n k l)
    = (m ((c : Thread nD τ).loc main_arg1) : FVec Ideal S16384x8x128 .f32)
        (ix3 (⟨t.val * 1024 + n.val, by have : t.val < 16 := t.isLt; omega⟩ : Fin 16384) k l) := by
  refine Eq.trans ?_ (congrFun (V_main_arg1 m c) _)
  have h := (idx t).2.1
  blk_ext [iblk, h]

set_option maxHeartbeats 4000000 in
/-- The other windows show whole arrays. -/
theorem wholes :
    (iblk m c 2 t : FVec Ideal S64x64 .bf16) = V m c main_v9
    ∧ (iblk m c 3 t : FVec Ideal S64x64 .bf16) = V m c main_v19
    ∧ (iblk m c 4 t : FVec Ideal S64x64 .bf16) = V m c main_v29
    ∧ (iblk m c 5 t : FVec Ideal S64x64 .bf16) = V m c main_v39
    ∧ (iblk m c 6 t : FVec Ideal S64x64 .bf16) = V m c main_v49
    ∧ (iblk m c 7 t : FVec Ideal S64x64 .bf16) = V m c main_v59
    ∧ (iblk m c 8 t : FVec Ideal S64x64 .bf16) = V m c main_v69
    ∧ (iblk m c 9 t : FVec Ideal S64x64 .bf16) = V m c main_v79
    ∧ (iblk m c 10 t : FVec Ideal S64x64 .bf16) = V m c main_v89
    ∧ (iblk m c 11 t : FVec Ideal S8x1 .f32) = V m c main_v90
    ∧ (iblk m c 12 t : FVec Ideal S8x1 .f32) = V m c main_v91
    ∧ (iblk m c 13 t : FVec Ideal S16x1 .f32) = V m c main_v92
    ∧ (iblk m c 14 t : FVec Ideal S16x1 .f32) = V m c main_v93
    ∧ (iblk m c 15 t : FVec Ideal S1 .f32) = V m c main_v94 := by
  obtain ⟨h0, h1, h2, h3, h4, h5, h6, h7, h8, h9, h10, h11, h12, h13, h14, h15, h16⟩ := idx t
  refine ⟨?_, ?_, ?_, ?_, ?_, ?_, ?_, ?_, ?_, ?_, ?_, ?_, ?_, ?_⟩ <;> funext i
  · clear h0 h1 h3 h4 h5 h6 h7 h8 h9 h10 h11 h12 h13 h14 h15 h16; blk_ext [iblk, h2]
  · clear h0 h1 h2 h4 h5 h6 h7 h8 h9 h10 h11 h12 h13 h14 h15 h16; blk_ext [iblk, h3]
  · clear h0 h1 h2 h3 h5 h6 h7 h8 h9 h10 h11 h12 h13 h14 h15 h16; blk_ext [iblk, h4]
  · clear h0 h1 h2 h3 h4 h6 h7 h8 h9 h10 h11 h12 h13 h14 h15 h16; blk_ext [iblk, h5]
  · clear h0 h1 h2 h3 h4 h5 h7 h8 h9 h10 h11 h12 h13 h14 h15 h16; blk_ext [iblk, h6]
  · clear h0 h1 h2 h3 h4 h5 h6 h8 h9 h10 h11 h12 h13 h14 h15 h16; blk_ext [iblk, h7]
  · clear h0 h1 h2 h3 h4 h5 h6 h7 h9 h10 h11 h12 h13 h14 h15 h16; blk_ext [iblk, h8]
  · clear h0 h1 h2 h3 h4 h5 h6 h7 h8 h10 h11 h12 h13 h14 h15 h16; blk_ext [iblk, h9]
  · clear h0 h1 h2 h3 h4 h5 h6 h7 h8 h9 h11 h12 h13 h14 h15 h16; blk_ext [iblk, h10]
  · clear h0 h1 h2 h3 h4 h5 h6 h7 h8 h9 h10 h12 h13 h14 h15 h16; blk_ext [iblk, h11]
  · clear h0 h1 h2 h3 h4 h5 h6 h7 h8 h9 h10 h11 h13 h14 h15 h16; blk_ext [iblk, h12]
  · clear h0 h1 h2 h3 h4 h5 h6 h7 h8 h9 h10 h11 h12 h14 h15 h16; blk_ext [iblk, h13]
  · clear h0 h1 h2 h3 h4 h5 h6 h7 h8 h9 h10 h11 h12 h13 h15 h16; blk_ext [iblk, h14]
  · clear h0 h1 h2 h3 h4 h5 h6 h7 h8 h9 h10 h11 h12 h13 h14 h16; blk_ext [iblk, h15]

end blocks

end Cert.KernelIdeal.Value
end
-- ==== Proof.Value.lean ====
module
public import proofs.«01_k».proof.Proof.Point
public import proofs.«01_k».proof.Proof.HostRead
public import proofs.«01_k».proof.Proof.Blocks

@[expose] public section
/-!
The array the kernel leaves, over the extended reals: at every allele, `Spec.answer` of the argument arrays.
-/
set_option maxRecDepth 16384
noncomputable section
open Idealize.ShloMosaic Idealize.ShloMosaic.TcCoe Idealize.SL.Sem
open Idealize.ShloMosaic.Pipeline (Dat)
open Cert.KernelIdeal Cert.KernelIdeal.Gen Cert.Spec
namespace Cert.KernelIdeal.Value
variable (m : (ℓ : Loc nD τ sig) → Buf (Elt Ideal) ℓ)

/-- The scores of the alleles, over the kernel's argument arrays. -/
def scores (c : Dev nD) : Fin 4096 → EReal :=
  let x0 : FVec Ideal S16384x8x128 .f32 := m ((c : Thread nD τ).loc main_arg0)
  let x1 : FVec Ideal S16384x8x128 .f32 := m ((c : Thread nD τ).loc main_arg1)
  let W0 : FVec Ideal S8x8x3 .f32 := m ((c : Thread nD τ).loc main_arg5)
  let b0 : FVec Ideal S8 .f32 := m ((c : Thread nD τ).loc main_arg6)
  let W1 : FVec Ideal S8x8x3 .f32 := m ((c : Thread nD τ).loc main_arg7)
  let b1 : FVec Ideal S8 .f32 := m ((c : Thread nD τ).loc main_arg8)
  let W2 : FVec Ideal S16x16x3 .f32 := m ((c : Thread nD τ).loc main_arg9)
  let b2 : FVec Ideal S16 .f32 := m ((c : Thread nD τ).loc main_arg10)
  let wo : FVec Ideal S16 .f32 := m ((c : Thread nD τ).loc main_arg11)
  let bo : FVec Ideal S_ .f32 := m ((c : Thread nD τ).loc main_arg12)
  alleleScore (fun n c l => x0 (ix3 n c l)) (fun n c l => x1 (ix3 n c l))
    (fun f c k => W0 (ix3 f c k)) (fun f => b0 (ix1 f)) (fun f c k => W1 (ix3 f c k)) (fun f => b1 (ix1 f))
    (fun f c k => W2 (ix3 f c k)) (fun f => b2 (ix1 f)) (fun f => wo (ix1 f)) (bo ix0)

/-- The bias of eight entries, stood up as a column. -/
theorem col8 (b : FVec Ideal S8 .f32) (f : Fin 8) : shapeCast S8x1 b shapeCasts_S8_S8x1 (ix2 f 0) = b (ix1 f) := by pointwise

/-- A vector of sixteen entries, stood up as a column. -/
theorem col16 (b : FVec Ideal S16 .f32) (f : Fin 16) : shapeCast S16x1 b shapeCasts_S16_S16x1 (ix2 f 0) = b (ix1 f) := by pointwise

/-- The output bias, as an array of one entry. -/
theorem col1 (b : FVec Ideal S_ .f32) : shapeCast S1 b shapeCasts_S_S1 (ix1 0) = b ix0 := by pointwise

/-- What the body stores at place `4·s + q` of the block of point `t`: the answer at allele `256·t + 4·s + q`. -/
theorem point (c : Dev nD) (t : Fin cfg0.N) (s : Fin 64) (q : Fin 4) :
    (outsAt0 m c t : FVec Ideal S1x1x256 .f32) (ix3 0 0 (⟨s.val * 4 + q.val, by omega⟩ : Fin 256))
      = answer (scores m c) ⟨t.val * 256 + (s.val * 4 + q.val), by have : t.val < 16 := t.isLt; omega⟩ := by
  have ht : t.val < 16 := t.isLt
  refine (congrFun (outs_eq m c t) _).trans ?_
  obtain ⟨e2, e3, e4, e5, e6, e7, e8, e9, e10, e11, e12, e13, e14, e15⟩ := wholes m c t
  obtain ⟨⟨k0, k1, k2⟩, ⟨k3, k4, k5⟩, k6, k7, k8⟩ := taps m c
  obtain ⟨v0, v1, v2, v3, v4⟩ := cols m c
  let W0 : FVec Ideal S8x8x3 .f32 := m ((c : Thread nD τ).loc main_arg5)
  let W1 : FVec Ideal S8x8x3 .f32 := m ((c : Thread nD τ).loc main_arg7)
  let W2 : FVec Ideal S16x16x3 .f32 := m ((c : Thread nD τ).loc main_arg9)
  rw [e2, e3, e4, e5, e6, e7, e8, e9, e10, e11, e12, e13, e14, e15]
  rw [Stage.out_read _ _ _ _ _ _ _ _ _ _ _ _ _ _ _ _ (fun f j k => W0 (ix3 f j k)) (fun f j k => W1 (ix3 f j k))
    (fun f j k => W2 (ix3 f j k)) k0 k1 k2 k3 k4 k5 k6 k7 k8, v0, v1, v2, v3, v4]
  unfold answer
  have eq : (⟨(t.val * 256 + (s.val * 4 + q.val)) % 4, by omega⟩ : Fin 4) = q := Fin.ext (by dsimp only; omega)
  have ep (p : Fin 4) : (⟨(t.val * 256 + (s.val * 4 + q.val)) / 4 * 4 + p.val, by omega⟩ : Fin 4096)
      = ⟨t.val * 256 + (s.val * 4 + p.val), by omega⟩ := Fin.ext (by dsimp only; omega)
  rw [eq]
  refine congrFun (congrArg logsoft ?_) q
  funext p
  rw [ep p]
  unfold Stage.blockScore scores alleleScore
  simp only [reads0, reads1]
  have en (q : Fin 4) : (⟨t.val * 1024 + ((s.val * 4 + p.val) * 4 + q.val), by omega⟩ : Fin 16384)
      = ⟨(t.val * 256 + (s.val * 4 + p.val)) * 4 + q.val, by omega⟩ := Fin.ext (by dsimp only; omega)
  simp only [en]
  refine congr (congr (congr (congrArg _ ?_) ?_) ?_) (congr (congrArg joined ?_) ?_)
  · exact funext fun f => col16 _ f
  · exact funext fun f => col16 _ f
  · exact col1 _
  · exact congrFun (congrArg (allele _) (funext fun f => col8 _ f)) _
  · exact congrFun (congrArg (allele _) (funext fun f => col8 _ f)) _

/-- The kernel's array after the run: the answer at every allele, 256 alleles to a row. -/
theorem final (c : Dev nD) : (dats m 0 c).arrAt 16 (cfgs 0).N
    = fun i : S16x1x256.Idx => answer (scores m c) ⟨(i 0).val * 256 + (i 2).val, by
        have h0 : (i 0).val < 16 := (i 0).isLt
        have h2 : (i 2).val < 256 := (i 2).isLt
        omega⟩ := by
  refine (dats m 0 c).arrAt_eq_of_covers 16 _ (by decide +kernel) fun t _ y => ?_
  blk_simp
  rw [after0_16]
  have ht : t.val < 16 := t.isLt
  have h0 : (y 0).val < 1 := (y 0).isLt
  have h1 : (y 1).val < 1 := (y 1).isLt
  have h2 : (y 2).val < 256 := (y 2).isLt
  have e : (y : S1x1x256.Idx) = ix3 0 0 (⟨(⟨(y 2).val / 4, by omega⟩ : Fin 64).val * 4 + (⟨(y 2).val % 4, by omega⟩ : Fin 4).val,
      by dsimp only; omega⟩ : Fin 256) := by
    funext a
    match a with
    | ⟨0, _⟩ => exact Fin.ext (by show (y 0).val = 0; omega)
    | ⟨1, _⟩ => exact Fin.ext (by show (y 1).val = 0; omega)
    | ⟨2, _⟩ => exact Fin.ext (by show (y 2).val = (y 2).val / 4 * 4 + (y 2).val % 4; omega)
  refine (congrArg (outsAt0 m c t : FVec Ideal S1x1x256 .f32) e).trans ((point m c t _ _).trans (congrArg (answer (scores m c)) (Fin.ext ?_)))
  have hx := (idx t).2.2.2.2.2.2.2.2.2.2.2.2.2.2.2.2
  have x0 : win0_16.index t 0 = t.val := congrFun hx 0
  have x2 : win0_16.index t 2 = 0 := congrFun hx 2
  show t.val * 256 + ((y 2).val / 4 * 4 + (y 2).val % 4) = win0_16.index t 0 * 256 + (win0_16.index t 2 * 256 + (y 2).val)
  rw [x0, x2]
  omega

end Cert.KernelIdeal.Value
end
-- ==== Proof.RefIds.lean ====
module
public import proofs.«01_k».proof.Proof.Gen.ReferenceIdeal.Read
public import Idealize.ShloMosaic.Lib.Routing.OpsSet
public import Idealize.ShloMosaic.Lib.Routing.OpsPair
public import Idealize.ShloMosaic.Lib.Routing.BitFacts
public import Idealize.ShloMosaic.Lib.ReduceAll
public import Idealize.ShloMosaic.Lib.Pointwise

@[expose] public section
/-!
The segment numbers of the reference, when every count is four: `jnp.repeat` of `0, 1, 2, …` by a vector of fours
puts `i / 4` at place `i`. Each step of it (shift, set, cumulative sum, histogram, cumulative sum, take) is a lemma
over the lengths, used for both lengths.
-/
set_option maxRecDepth 16384
noncomputable section
open Idealize.ShloMosaic hiding ix0 ix1 ix2 ix3 eq_ix1 eq_ix2 eq_ix3
open Idealize.ShloMosaic.Routing Idealize.ShloMosaic.ValueIdx
open Cert.ReferenceIdeal Cert.ReferenceIdeal.Read
namespace Cert.ReferenceIdeal.Ids

/-- A scatter that writes one scalar at place 0 leaves the scalar there and the other entries as they were. -/
theorem set_first {N : Nat} (d : ScatterDims (shape1 N) (shape1 1) shape0) (x : IVec (shape1 N) 32) (idx : IVec (shape1 1) 32)
    (upd : IVec shape0 32) (hs : ∀ k, d.start k idx 0 = 0) (hw : ∀ k, d.window k 0 = 0) (hu : ∀ k, upd k = 0#32) (i : Fin N) :
    Host.scatter d (fun _ b => b) x idx upd (ix1 i) = if i.val = 0 then 0#32 else x (ix1 i) := by
  have key : ∀ k, d.resultIdx? k idx = some (ix1 i) ↔ i.val = 0 := fun k => by
    rw [resultIdx?_ix1, hs, hw]; omega
  split
  · next h => exact scatter_set_hit d x idx upd _ _ (fun k _ => hu k) ix0 ((key _).2 h)
  · next h => exact scatter_set_miss d x idx upd _ fun k hk => h ((key k).1 hk)

/-- The sum of `0, 4, 4, …` up to place `j` is `4·j`. -/
theorem sum_fours (j : Nat) : ((List.range (j + 1)).map fun i => if i = 0 then 0 else 4).sum = j * 4 := by
  induction j with
  | zero => rfl
  | succ j ih => rw [List.range_succ, List.map_append, List.sum_append, ih]; simp; omega

/-- The sum of the indicators of the multiples of four up to place `j` is `j / 4 + 1`. -/
theorem sum_marks (j : Nat) : ((List.range (j + 1)).map fun i => if i % 4 = 0 then 1 else 0).sum = j / 4 + 1 := by
  induction j with
  | zero => rfl
  | succ j ih =>
    rw [List.range_succ, List.map_append, List.sum_append, ih]
    simp only [List.map_cons, List.map_nil, List.sum_cons, List.sum_nil]
    split <;> omega

/-- Adding a one at each marked place of a list adds the number of marked places. -/
theorem fold_marks {ι : Type} (p : ι → Prop) [DecidablePred p] (u : ι → BitVec 32) (hu : ∀ n, u n = 1#32) (l : List ι) (z : Nat) :
    l.foldl (fun a n => if p n then IntOp.addi a (u n) else a) (BitVec.ofNat 32 z) = BitVec.ofNat 32 (z + l.countP fun n => decide (p n)) := by
  induction l generalizing z with
  | nil => rfl
  | cons n l ih =>
    rw [List.foldl_cons, List.countP_cons]
    by_cases h : p n
    · rw [if_pos h, hu, show IntOp.addi (BitVec.ofNat 32 z) 1#32 = BitVec.ofNat 32 (z + 1) from (BitVec.ofNat_add ..).symm, ih, if_pos (decide_eq_true h),
        Nat.add_assoc, Nat.add_comm 1]
    · rw [if_neg h, ih, if_neg (by simpa using h), Nat.add_zero]

/-- Counting over the numbers below two equal bounds is the same. -/
theorem countP_cast {n m : Nat} (h : n = m) (q : Nat → Bool) :
    (List.finRange n).countP (fun k => q k.val) = (List.finRange m).countP fun k => q k.val := by
  subst h; rfl

/-- Of the numbers below `N`, the one that is a quarter of `x` is there once, when `x` is a multiple of four. -/
theorem count_place {N x : Nat} (hx : x < N * 4) :
    ((List.finRange N).countP fun k => decide (k.val * 4 = x)) = if x % 4 = 0 then 1 else 0 := by
  split
  · next h =>
    rw [show (fun k : Fin N => decide (k.val * 4 = x)) = fun k => k == ⟨x / 4, by omega⟩ from funext fun k => by
      rw [Bool.eq_iff_iff, decide_eq_true_iff, beq_iff_eq, Fin.ext_iff]; dsimp only; omega]
    exact List.count_eq_one_of_mem (List.nodup_finRange N) (List.mem_finRange _)
  · next h =>
    rw [List.countP_eq_zero]
    intro k _
    rw [decide_eq_true_iff]; omega

/-- Adding a one at each of the places `0, 4, 8, …` of a vector of zeros marks the multiples of four. -/
theorem marks {N M : Nat} (hM : M = N * 4) (d : ScatterDims (shape1 M) (shape2 N 1) (shape1 N)) (x : IVec (shape1 M) 32)
    (idx : IVec (shape2 N 1) 32) (upd : IVec (shape1 N) 32) (hs : ∀ i : Fin N, d.start (ix1 i) idx 0 = ((i.val * 4 : Nat) : Int))
    (hw : ∀ k, d.window k 0 = 0) (hx : ∀ k, x k = 0#32) (hu : ∀ k, upd k = 1#32) (i : Fin M) :
    Host.scatter d IntOp.addi x idx upd (ix1 i) = BitVec.ofNat 32 (if i.val % 4 = 0 then 1 else 0) := by
  have key : ∀ n, d.resultIdx? ((shape1 N).rowMajor.symm n) idx = some (ix1 i) ↔ n.val * 4 = i.val := fun n => by
    rw [symm1, resultIdx?_ix1, hs, hw]
    show ((n.val * 4 : Nat) : Int) + ((0 : Nat) : Int) = _ ↔ _
    omega
  rw [scatter_at, hx, fold_marks _ _ fun n => hu _, Nat.zero_add, ← count_place (hM ▸ i.isLt : i.val < N * 4)]
  refine congrArg (BitVec.ofNat 32) ?_
  refine (List.countP_congr fun n _ => ?_).trans (countP_cast (numel1 N) fun k => decide (k * 4 = i.val))
  rw [decide_eq_true_iff, decide_eq_true_iff]
  exact key n

/-- A small number compared with zero is not below it, so the wrap of negative places leaves it. -/
theorem wrap (a b : BitVec 32) (n : Nat) (ha : a = BitVec.ofNat 32 n) (hn : n < 2 ^ 31) :
    Scalar.select (IntOp.cmpi .slt a 0#32) b a = BitVec.ofNat 32 n := by
  subst ha
  have h : IntOp.cmpi .slt (BitVec.ofNat 32 n) 0#32 = 0#1 := by
    show BitVec.ofBool ((BitVec.ofNat 32 n).slt (BitVec.ofNat 32 0)) = _
    rw [slt_ofNat32 hn (by decide)]; simp
  rw [h]; rfl

/-- A number from zero up to a bound passes the take's range test. -/
theorem inside (n m : Nat) (h : n ≤ m) (hm : m < 2 ^ 31) :
    IntOp.andi (IntOp.cmpi .sge (BitVec.ofNat 32 n) 0#32) (IntOp.cmpi .sle (BitVec.ofNat 32 n) (BitVec.ofNat 32 m)) = 1#1 := by
  have h1 : IntOp.cmpi .sge (BitVec.ofNat 32 n) 0#32 = 1#1 := by
    show BitVec.ofBool ((BitVec.ofNat 32 0).sle (BitVec.ofNat 32 n)) = _
    rw [sle_ofNat32 (by decide) (by omega)]; simp
  have h2 : IntOp.cmpi .sle (BitVec.ofNat 32 n) (BitVec.ofNat 32 m) = 1#1 := by
    show BitVec.ofBool ((BitVec.ofNat 32 n).sle (BitVec.ofNat 32 m)) = _
    rw [sle_ofNat32 (by omega) hm, decide_eq_true h]; rfl
  rw [h1, h2]; rfl

/-- A vector of fours, rolled by one place, is a vector of fours. -/
theorem rolled (i : Fin 4096) : val_main_v47 (F := Ideal) (fun _ => 4#32) (ix1 i) = 4#32 := by
  pointwise [val_main_v47, val_main_call2_v0, val_main_call2_v1]
  split <;> rfl

/-- With the first count replaced by zero: `0, 4, 4, …`. -/
theorem starts (i : Fin 4096) : val_main_v49 (F := Ideal) (fun _ => 4#32) (ix1 i) = BitVec.ofNat 32 (if i.val = 0 then 0 else 4) := by
  refine (set_first (N := 4096) scatter_S4096_S1_S__n_0_0_0 _ _ _ (fun _ => rfl) (fun _ => rfl) (fun _ => rfl) i).trans ?_
  rw [rolled]
  split <;> rfl

/-- The first place of segment `i` is `4·i`. -/
theorem offsets (i : Fin 4096) : val_main_v50 (F := Ideal) (fun _ => 4#32) (ix1 i) = BitVec.ofNat 32 (i.val * 4) := by
  refine (cumsum1 (N := 4096) (Nm1 := 4095) rfl _ (fun i => if i = 0 then 0 else 4) starts _ rfl _ _ i).trans ?_
  rw [sum_fours]

/-- The same after the wrap of negative places. -/
theorem places (i : Fin 4096) : val_main_v57 (F := Ideal) (fun _ => 4#32) (ix2 i (0 : Fin 1)) = BitVec.ofNat 32 (i.val * 4) := by
  unfold val_main_v57
  rw [bcCol]
  unfold val_main_v56 val_main_v53
  exact wrap _ _ (i.val * 4) (offsets i) (by omega)

/-- The scatter of the marks reads its place off the index column. -/
theorem start_marks (idx : IVec S4096x1 32) (k : Fin 4096) :
    scatter_S16384_S4096x1_S4096_n_0_0_1.start (ix1 k) idx 0 = (idx (ix2 k (0 : Fin 1))).toInt := by
  unfold ScatterDims.start
  rw [dif_pos (by decide)]
  exact congrArg (fun z => (idx z).toInt) (funext fun b => match b with | ⟨0, _⟩ => rfl | ⟨1, _⟩ => rfl)

/-- The places where a segment begins are marked. -/
theorem marked (i : Fin 16384) : val_main_v59 (F := Ideal) (fun _ => 4#32) (ix1 i) = BitVec.ofNat 32 (if i.val % 4 = 0 then 1 else 0) := by
  unfold val_main_v59
  refine marks (N := 4096) (M := 16384) rfl scatter_S16384_S4096x1_S4096_n_0_0_1 _ _ _ (fun k => ?_) (fun _ => rfl) (fun _ => rfl) (fun _ => rfl) i
  refine (start_marks _ k).trans ?_
  rw [places]
  exact StableHlo.Predicate.toInt_ofNat_small _ (by omega)

/-- Counting the marks up to a place, less one, numbers its segment. -/
theorem numbers (i : Fin 16384) : val_main_v62 (F := Ideal) (fun _ => 4#32) (ix1 i) = BitVec.ofNat 32 (i.val / 4) := by
  have h : val_main_v60 (F := Ideal) (fun _ => 4#32) (ix1 i) = BitVec.ofNat 32 (i.val / 4 + 1) := by
    refine (cumsum1 (N := 16384) (Nm1 := 16383) rfl _ (fun i => if i % 4 = 0 then 1 else 0) marked _ rfl _ _ i).trans ?_
    rw [sum_marks]
  show val_main_v60 (F := Ideal) (fun _ => 4#32) (ix1 i) - BitVec.ofNat 32 1 = _
  rw [h, ofNat32_sub (by omega), Nat.add_sub_cancel]

/-- The take's place after its wrap of negative places. -/
theorem taken (i : Fin 16384) : val_main_call5_v5 (F := Ideal) (fun _ => 4#32) (ix2 i (0 : Fin 1)) = BitVec.ofNat 32 (i.val / 4) := by
  unfold val_main_call5_v5
  rw [bcCol]
  unfold val_main_call5_v4 val_main_call5_v1
  exact wrap _ _ (i.val / 4) (numbers i) (by omega)

/-- The segment number of read `i` is `i / 4`. -/
theorem segment (i : Fin 16384) : val_main_v63 (F := Ideal) (fun _ => 4#32) (ix1 i) = BitVec.ofNat 32 (i.val / 4) := by
  have hin : val_main_call5_v12 (F := Ideal) (fun _ => 4#32) (ix1 i) = 1#1 := by
    unfold val_main_call5_v12
    refine Host.reduce_andi_one _ _ _ _ _ rfl fun k => ?_
    have hk : k = ix2 (k 0) (0 : Fin 1) := (eq_ix2 k).trans (congrArg (ix2 (k 0)) (Subsingleton.elim (α := Fin 1) _ _))
    rw [hk]
    have h := inside ((k 0).val / 4) 4095 (by have := (k 0).isLt; change (k 0).val < 16384 at this; omega) (by decide)
    rw [← taken (k 0)] at h
    exact h
  have hg : val_main_call5_v13 (F := Ideal) (fun _ => 4#32) (ix1 i) = BitVec.ofNat 32 (i.val / 4) := by
    unfold val_main_call5_v13
    rw [gather_take1 (N := 4096) (n := 16384) gather_S4096_S16384x1_S16384_n_0_n_n_0_1_1 rfl rfl rfl rfl _ _ i ⟨i.val / 4, by omega⟩ (taken i) (by omega)]
    rfl
  unfold val_main_v63
  show Scalar.select (val_main_call5_v12 (F := Ideal) (fun _ => 4#32) (ix1 i)) (val_main_call5_v13 (F := Ideal) (fun _ => 4#32) (ix1 i)) _ = _
  rw [hin, hg]
  rfl

/-! The same steps for the sites of the alleles: 1024 counts, 4096 places. -/

/-- Sites: A vector of fours, rolled by one place, is a vector of fours. -/
theorem rolled_site (i : Fin 1024) : val_main_v119 (F := Ideal) (fun _ => 4#32) (ix1 i) = 4#32 := by
  pointwise [val_main_v119, val_main_call11_v0, val_main_call11_v1]
  split <;> rfl

/-- Sites: With the first count replaced by zero: `0, 4, 4, …`. -/
theorem starts_site (i : Fin 1024) : val_main_v121 (F := Ideal) (fun _ => 4#32) (ix1 i) = BitVec.ofNat 32 (if i.val = 0 then 0 else 4) := by
  refine (set_first (N := 1024) scatter_S1024_S1_S__n_0_0_0 _ _ _ (fun _ => rfl) (fun _ => rfl) (fun _ => rfl) i).trans ?_
  rw [rolled_site]
  split <;> rfl

/-- Sites: The first place of segment `i` is `4·i`. -/
theorem offsets_site (i : Fin 1024) : val_main_v122 (F := Ideal) (fun _ => 4#32) (ix1 i) = BitVec.ofNat 32 (i.val * 4) := by
  refine (cumsum1 (N := 1024) (Nm1 := 1023) rfl _ (fun i => if i = 0 then 0 else 4) starts_site _ rfl _ _ i).trans ?_
  rw [sum_fours]

/-- Sites: The same after the wrap of negative places. -/
theorem places_site (i : Fin 1024) : val_main_v129 (F := Ideal) (fun _ => 4#32) (ix2 i (0 : Fin 1)) = BitVec.ofNat 32 (i.val * 4) := by
  unfold val_main_v129
  rw [bcCol]
  unfold val_main_v128 val_main_v125
  exact wrap _ _ (i.val * 4) (offsets_site i) (by omega)

/-- Sites: The scatter of the marks reads its place off the index column. -/
theorem start_marks_site (idx : IVec S1024x1 32) (k : Fin 1024) :
    scatter_S4096_S1024x1_S1024_n_0_0_1.start (ix1 k) idx 0 = (idx (ix2 k (0 : Fin 1))).toInt := by
  unfold ScatterDims.start
  rw [dif_pos (by decide)]
  exact congrArg (fun z => (idx z).toInt) (funext fun b => match b with | ⟨0, _⟩ => rfl | ⟨1, _⟩ => rfl)

/-- Sites: The places where a segment begins are marked. -/
theorem marked_site (i : Fin 4096) : val_main_v131 (F := Ideal) (fun _ => 4#32) (ix1 i) = BitVec.ofNat 32 (if i.val % 4 = 0 then 1 else 0) := by
  unfold val_main_v131
  refine marks (N := 1024) (M := 4096) rfl scatter_S4096_S1024x1_S1024_n_0_0_1 _ _ _ (fun k => ?_) (fun _ => rfl) (fun _ => rfl) (fun _ => rfl) i
  refine (start_marks_site _ k).trans ?_
  rw [places_site]
  exact StableHlo.Predicate.toInt_ofNat_small _ (by omega)

/-- Sites: Counting the marks up to a place, less one, numbers its segment. -/
theorem numbers_site (i : Fin 4096) : val_main_v134 (F := Ideal) (fun _ => 4#32) (ix1 i) = BitVec.ofNat 32 (i.val / 4) := by
  have h : val_main_v132 (F := Ideal) (fun _ => 4#32) (ix1 i) = BitVec.ofNat 32 (i.val / 4 + 1) := by
    refine (cumsum1 (N := 4096) (Nm1 := 4095) rfl _ (fun i => if i % 4 = 0 then 1 else 0) marked_site _ rfl _ _ i).trans ?_
    rw [sum_marks]
  show val_main_v132 (F := Ideal) (fun _ => 4#32) (ix1 i) - BitVec.ofNat 32 1 = _
  rw [h, ofNat32_sub (by omega), Nat.add_sub_cancel]

/-- Sites: The take's place after its wrap of negative places. -/
theorem taken_site (i : Fin 4096) : val_main_call14_v5 (F := Ideal) (fun _ => 4#32) (ix2 i (0 : Fin 1)) = BitVec.ofNat 32 (i.val / 4) := by
  unfold val_main_call14_v5
  rw [bcCol]
  unfold val_main_call14_v4 val_main_call14_v1
  exact wrap _ _ (i.val / 4) (numbers_site i) (by omega)

/-- Sites: The site number of allele `i` is `i / 4`. -/
theorem segment_site (i : Fin 4096) : val_main_v135 (F := Ideal) (fun _ => 4#32) (ix1 i) = BitVec.ofNat 32 (i.val / 4) := by
  have hin : val_main_call14_v12 (F := Ideal) (fun _ => 4#32) (ix1 i) = 1#1 := by
    unfold val_main_call14_v12
    refine Host.reduce_andi_one _ _ _ _ _ rfl fun k => ?_
    have hk : k = ix2 (k 0) (0 : Fin 1) := (eq_ix2 k).trans (congrArg (ix2 (k 0)) (Subsingleton.elim (α := Fin 1) _ _))
    rw [hk]
    have h := inside ((k 0).val / 4) 1023 (by have := (k 0).isLt; change (k 0).val < 4096 at this; omega) (by decide)
    rw [← taken_site (k 0)] at h
    exact h
  have hg : val_main_call14_v13 (F := Ideal) (fun _ => 4#32) (ix1 i) = BitVec.ofNat 32 (i.val / 4) := by
    unfold val_main_call14_v13
    rw [gather_take1 (N := 1024) (n := 4096) gather_S1024_S4096x1_S4096_n_0_n_n_0_1_1 rfl rfl rfl rfl _ _ i ⟨i.val / 4, by omega⟩ (taken_site i) (by omega)]
    rfl
  unfold val_main_v135
  show Scalar.select (val_main_call14_v12 (F := Ideal) (fun _ => 4#32) (ix1 i)) (val_main_call14_v13 (F := Ideal) (fun _ => 4#32) (ix1 i)) _ = _
  rw [hin, hg]
  rfl

end Cert.ReferenceIdeal.Ids
end
-- ==== Proof.RefRead.lean ====
module
public import proofs.«01_k».proof.Proof.RefIds
public import proofs.«01_k».proof.Proof.Spec

@[expose] public section
/-!
The stages of the reference up to the alleles' scores, read at an index over the extended reals.
-/
set_option maxRecDepth 16384
set_option maxHeartbeats 4000000
noncomputable section
open Idealize.ShloMosaic hiding ix0 ix1 ix2 ix3 eq_ix1 eq_ix2 eq_ix3
open Idealize.ShloMosaic.Routing Idealize.ShloMosaic.ValueIdx
open Cert.ReferenceIdeal Cert.ReferenceIdeal.Read Cert.Spec
namespace Cert.ReferenceIdeal.Stages

/-- A row with a zero on either side, read at three neighbouring places, gives the taps of the convolution: the sum
    of the three inner products, the bias and the rectifier make the layer. -/
theorem layer_of {C : Nat} (W : Fin C → Fin 3 → EReal) (b : EReal) (x : Fin C → Fin 128 → EReal) (l : Fin 128) (p : Fin C → Fin 130 → EReal)
    (hp : ∀ c m, p c m = if h : 1 ≤ m.val ∧ m.val < 129 then x c ⟨m.val - 1, by omega⟩ else 0) :
    max ((∑ c, p c ⟨l.val, by omega⟩ * W c 0) + (∑ c, p c ⟨1 + l.val, by omega⟩ * W c 1) + (∑ c, p c ⟨2 + l.val, by omega⟩ * W c 2) + b) 0
      = layer W b x l := by
  have h0 : ∀ c, p c ⟨l.val, by omega⟩ = tap (x c) 0 l := fun c => by
    rw [hp]; unfold tap; dsimp only
    by_cases h : l.val < 1
    · rw [dif_neg (by omega), dif_pos h]
    · rw [dif_pos (by omega), dif_neg h]
  have h1 : ∀ c, p c ⟨1 + l.val, by omega⟩ = tap (x c) 1 l := fun c => by
    rw [hp]; unfold tap; dsimp only
    rw [dif_pos (by omega)]
    exact congrArg (x c) (Fin.ext (by dsimp only; omega))
  have h2 : ∀ c, p c ⟨2 + l.val, by omega⟩ = tap (x c) 2 l := fun c => by
    rw [hp]; unfold tap; dsimp only
    by_cases h : l.val < 127
    · rw [dif_pos (by omega), dif_pos h]
      exact congrArg (x c) (Fin.ext (by dsimp only; omega))
    · rw [dif_neg (by omega), dif_neg h]
  simp only [h0, h1, h2, layer, conv, mul_comm]

/-- The padding value of the reads is zero. -/
theorem pad_zero : (FloatOps.sitofp (F := Ideal) .f32 (0#32) : EReal) = 0 := by
  simp [FloatOps.sitofp]

/-- The padded reads: a zero on either side of each row. -/
theorem pad8_read (x : FVec Ideal S16384x8x128 .f32) (n : Fin 16384) (c : Fin 8) (m : Fin 130) :
    val_main_v0 (F := Ideal) x (ix3 n c m) = if h : 1 ≤ m.val ∧ m.val < 129 then x (ix3 n c ⟨m.val - 1, by omega⟩) else 0 := by
  pointwise [val_main_v0, val_main_call0_v0, val_main_c]
  rw [pad_zero]
  by_cases h : 1 ≤ m.val ∧ m.val < 129
  · rw [dif_pos h, dif_pos ⟨h.1, by show m.val - 1 < 128; omega⟩]
    rfl
  · rw [dif_neg h, dif_neg fun q => h ⟨q.1, by have := q.2; change m.val - 1 < 128 at this; have := q.1; change 1 ≤ m.val at this; omega⟩]

/-- The first layer of the reference on each read. -/
theorem layer8_read (x : FVec Ideal S16384x8x128 .f32) (w : FVec Ideal S8x8x3 .f32) (b : FVec Ideal S8 .f32) (n : Fin 16384) (f : Fin 8) (l : Fin 128) :
    val_main_v22 (F := Ideal) x w b (ix3 n f l) = layer (fun c k => w (ix3 f c k)) (b (ix1 f)) (fun c l => x (ix3 n c l)) l := by
  simp only [val_main_v22_apply, val_main_v20_apply, val_main_v17_apply, val_main_v16_apply, val_main_v5_apply, val_main_v10_apply, val_main_v15_apply,
    val_main_v4_apply, val_main_v9_apply, val_main_v14_apply, val_main_v3_apply, val_main_v8_apply, val_main_v13_apply,
    val_main_v2_apply, val_main_v7_apply, val_main_v12_apply, val_main_v1_apply, val_main_v6_apply, val_main_v11_apply, val_main_v19_apply, val_main_v18_apply, val_main_v21_apply, val_main_cst_apply]
  refine Eq.trans ?_ (layer_of (fun c k => w (ix3 f c k)) (b (ix1 f)) (fun c l => x (ix3 n c l)) l (fun c m => val_main_v0 (F := Ideal) x (ix3 n c m)) fun c m => pad8_read x n c m)
  have z : (FloatOps.ofBits (F := Ideal) .f32 0#32 : EReal) = 0 := Ideal.ofBits_zero_f32
  rw [z]
  have e0 : ∀ c : Fin 8, idx_main_v1 (idx_main_v2 (ridx_main_v4 (idx_main_v5 (ix3 n f l)) c)) = ix3 f c 0 := fun c => funext fun a => Fin.ext (match a with
    | ⟨0, _⟩ => by show (f.val * 8 + c.val) / 8 = f.val; omega
    | ⟨1, _⟩ => by show (f.val * 8 + c.val) / 1 % 8 = c.val; omega
    | ⟨2, _⟩ => rfl)
  have e1 : ∀ c : Fin 8, idx_main_v6 (idx_main_v7 (ridx_main_v9 (idx_main_v10 (ix3 n f l)) c)) = ix3 f c 1 := fun c => funext fun a => Fin.ext (match a with
    | ⟨0, _⟩ => by show (f.val * 8 + c.val) / 8 = f.val; omega
    | ⟨1, _⟩ => by show (f.val * 8 + c.val) / 1 % 8 = c.val; omega
    | ⟨2, _⟩ => rfl)
  have e2 : ∀ c : Fin 8, idx_main_v11 (idx_main_v12 (ridx_main_v14 (idx_main_v15 (ix3 n f l)) c)) = ix3 f c 2 := fun c => funext fun a => Fin.ext (match a with
    | ⟨0, _⟩ => by show (f.val * 8 + c.val) / 8 = f.val; omega
    | ⟨1, _⟩ => by show (f.val * 8 + c.val) / 1 % 8 = c.val; omega
    | ⟨2, _⟩ => rfl)
  have p0 : ∀ c : Fin 8, idx_main_v3 (lidx_main_v4 (idx_main_v5 (ix3 n f l)) c) = ix3 n c ⟨l.val, by omega⟩ := fun c => funext fun a => match a with
    | ⟨0, _⟩ => rfl | ⟨1, _⟩ => rfl | ⟨2, _⟩ => rfl
  have p1 : ∀ c : Fin 8, idx_main_v8 (lidx_main_v9 (idx_main_v10 (ix3 n f l)) c) = ix3 n c ⟨1 + l.val, by omega⟩ := fun c => funext fun a => match a with
    | ⟨0, _⟩ => rfl | ⟨1, _⟩ => rfl | ⟨2, _⟩ => rfl
  have p2 : ∀ c : Fin 8, idx_main_v13 (lidx_main_v14 (idx_main_v15 (ix3 n f l)) c) = ix3 n c ⟨2 + l.val, by omega⟩ := fun c => funext fun a => match a with
    | ⟨0, _⟩ => rfl | ⟨1, _⟩ => rfl | ⟨2, _⟩ => rfl
  have eb : idx_main_v18 (idx_main_v19 (ix3 n f l)) = ix1 f := funext fun a => match a with | ⟨0, _⟩ => rfl
  simp only [e0, e1, e2, p0, p1, p2, eb]
  rfl

/-- A float scatter that adds whole channel rows, one index word per row, at zero: the sum over the rows whose word is the
    element's row. With the words `i / 4` these are the four rows `4·a … 4·a + 3`. -/
theorem segment_sum (z : FVec Ideal S4096x8x128 .f32) (hz : ∀ k, z k = 0) (idx : IVec S16384x1 32) (u : FVec Ideal S16384x8x128 .f32)
    (hidx : ∀ i : Fin 16384, idx (ix2 i (0 : Fin 1)) = BitVec.ofNat 32 (i.val / 4)) (a : Fin 4096) (f : Fin 8) (l : Fin 128) :
    Host.scatterAdd scatter_S4096x8x128_S16384x1_S16384x8x128_12_0_0_1 z idx u (ix3 a f l) = ∑ q : Fin 4, u (ix3 ⟨a.val * 4 + q.val, by omega⟩ f l) := by
  show z (ix3 a f l) + ∑ j ∈ Finset.univ.filter (fun j => scatter_S4096x8x128_S16384x1_S16384x8x128_12_0_0_1.resultIdx? j idx = some (ix3 a f l)), u j = _
  have hs : ∀ j : S16384x8x128.Idx, scatter_S4096x8x128_S16384x1_S16384x8x128_12_0_0_1.start j idx 0 = (((j 0).val / 4 : Nat) : Int) := fun j => by
    have hj : (j 0).val < 16384 := (j 0).isLt
    unfold ScatterDims.start
    rw [dif_pos (by decide)]
    rw [← StableHlo.Predicate.toInt_ofNat_small ((j 0).val / 4) (by omega), ← hidx ⟨(j 0).val, hj⟩]
    exact congrArg (fun z => (idx z).toInt) (funext fun b => match b with | ⟨0, _⟩ => rfl | ⟨1, _⟩ => rfl)
  have key : ∀ j : S16384x8x128.Idx, scatter_S4096x8x128_S16384x1_S16384x8x128_12_0_0_1.resultIdx? j idx = some (ix3 a f l)
      ↔ (j 0).val / 4 = a.val ∧ (j 1).val = f.val ∧ (j 2).val = l.val := fun j => by
    rw [resultIdx?_eq_some]
    constructor
    · intro h
      have h0 := h 0
      have h1 := h 1
      have h2 := h 2
      rw [hs] at h0
      change ((_ : Nat) : Int) + ((0 : Nat) : Int) = (a.val : Int) at h0
      change (0 : Int) + (((j 1).val : Nat) : Int) = (f.val : Int) at h1
      change (0 : Int) + (((j 2).val : Nat) : Int) = (l.val : Int) at h2
      omega
    · rintro ⟨h0, h1, h2⟩ b
      match b with
      | ⟨0, _⟩ =>
        refine Eq.trans (congrArg (· + _) (hs j)) ?_
        show (((j 0).val / 4 : Nat) : Int) + ((0 : Nat) : Int) = (a.val : Int)
        omega
      | ⟨1, _⟩ =>
        show (0 : Int) + (((j 1).val : Nat) : Int) = (f.val : Int)
        omega
      | ⟨2, _⟩ =>
        show (0 : Int) + (((j 2).val : Nat) : Int) = (l.val : Int)
        omega
  rw [hz, zero_add]
  refine (Finset.sum_nbij' (i := fun q : Fin 4 => (ix3 ⟨a.val * 4 + q.val, by omega⟩ f l : S16384x8x128.Idx)) (j := fun j => (⟨(j 0).val % 4, by omega⟩ : Fin 4))
    ?_ ?_ ?_ ?_ ?_).symm
  · intro q _
    rw [Finset.mem_filter, key]
    refine ⟨Finset.mem_univ _, ?_, rfl, rfl⟩
    show (a.val * 4 + q.val) / 4 = a.val
    omega
  · intro j _; exact Finset.mem_univ _
  · intro q _
    refine Fin.ext ?_
    show (a.val * 4 + q.val) % 4 = q.val
    omega
  · intro j hj
    rw [Finset.mem_filter, key] at hj
    obtain ⟨_, h0, h1, h2⟩ := hj
    funext b
    refine Fin.ext ?_
    match b with
    | ⟨0, _⟩ => show a.val * 4 + (j 0).val % 4 = (j 0).val; omega
    | ⟨1, _⟩ => exact h1.symm
    | ⟨2, _⟩ => exact h2.symm
  · intro q _; rfl

end Cert.ReferenceIdeal.Stages
end
-- ==== Proof.RefScore.lean ====
module
public import proofs.«01_k».proof.Proof.RefRead
public import proofs.«01_k».proof.Proof.StageRead

@[expose] public section
/-!
The reference's score of every allele, when every count is four.
-/
set_option maxRecDepth 16384
set_option maxHeartbeats 4000000
noncomputable section
open Idealize.ShloMosaic hiding ix0 ix1 ix2 ix3 eq_ix1 eq_ix2 eq_ix3
open Idealize.ShloMosaic.Routing Idealize.ShloMosaic.ValueIdx
open Cert.ReferenceIdeal Cert.ReferenceIdeal.Read Cert.Spec
namespace Cert.ReferenceIdeal.Stages

/-- A vector of fours. -/
abbrev fours {s : Shape} : IVec s 32 := fun _ => 4#32

/-- The reads of the first technology, summed by allele. -/
theorem allele0_read (x : FVec Ideal S16384x8x128 .f32) (w : FVec Ideal S8x8x3 .f32) (b : FVec Ideal S8 .f32) (a : Fin 4096) (f : Fin 8) (l : Fin 128) :
    val_main_v84 (F := Ideal) x fours w b (ix3 a f l)
      = allele (fun f c k => w (ix3 f c k)) (fun f => b (ix1 f)) (fun q c l => x (ix3 ⟨a.val * 4 + q.val, by omega⟩ c l)) f l := by
  unfold val_main_v84
  refine (segment_sum _ (fun k => Ideal.ofBits_zero_f32) _ _ (fun i => ?_) a f l).trans ?_
  · unfold val_main_v83
    rw [bcCol]
    exact Ids.segment i
  · exact Finset.sum_congr rfl fun q _ => layer8_read x w b _ f l

/-- The reads of the second technology go through the same program. -/
theorem second_tech : val_main_v87 (F := Ideal) = val_main_v84 (F := Ideal) := rfl

/-- The sixteen joined channels of an allele. -/
theorem joined_read (x0 x1 : FVec Ideal S16384x8x128 .f32) (w0 : FVec Ideal S8x8x3 .f32) (b0 : FVec Ideal S8 .f32) (w1 : FVec Ideal S8x8x3 .f32)
    (b1 : FVec Ideal S8 .f32) (a : Fin 4096) (g : Fin 16) (l : Fin 128) :
    val_main_v88 (F := Ideal) x0 x1 fours fours w0 b0 w1 b1 (ix3 a g l)
      = joined (allele (fun f c k => w0 (ix3 f c k)) (fun f => b0 (ix1 f)) (fun q c l => x0 (ix3 ⟨a.val * 4 + q.val, by omega⟩ c l)))
          (allele (fun f c k => w1 (ix3 f c k)) (fun f => b1 (ix1 f)) (fun q c l => x1 (ix3 ⟨a.val * 4 + q.val, by omega⟩ c l))) g l := by
  unfold val_main_v88
  rw [second_tech]
  generalize h0 : val_main_v84 (F := Ideal) x0 fours w0 b0 = y0
  generalize h1 : val_main_v84 (F := Ideal) x1 fours w1 b1 = y1
  pointwise []
  unfold joined
  by_cases h : g.val < 8
  · rw [dif_pos h, dif_pos h, ← h0]
    exact allele0_read x0 w0 b0 a ⟨g.val, h⟩ l
  · rw [dif_neg h, dif_neg h, ← h1]
    exact allele0_read x1 w1 b1 a ⟨g.val - 8, by omega⟩ l

/-- The padded channels: a zero on either side of each row. -/
theorem pad16_read (x0 x1 : FVec Ideal S16384x8x128 .f32) (w0 : FVec Ideal S8x8x3 .f32) (b0 : FVec Ideal S8 .f32) (w1 : FVec Ideal S8x8x3 .f32)
    (b1 : FVec Ideal S8 .f32) (n : Fin 4096) (c : Fin 16) (m : Fin 130) :
    val_main_v89 (F := Ideal) x0 x1 fours fours w0 b0 w1 b1 (ix3 n c m)
      = if h : 1 ≤ m.val ∧ m.val < 129 then val_main_v88 (F := Ideal) x0 x1 fours fours w0 b0 w1 b1 (ix3 n c ⟨m.val - 1, by omega⟩) else 0 := by
  unfold val_main_v89
  generalize val_main_v88 (F := Ideal) x0 x1 fours fours w0 b0 w1 b1 = y
  pointwise [val_main_call10_v0, val_main_c_18]
  rw [pad_zero]
  by_cases h : 1 ≤ m.val ∧ m.val < 129
  · rw [dif_pos h, dif_pos ⟨h.1, by show m.val - 1 < 128; omega⟩]
    rfl
  · rw [dif_neg h, dif_neg fun q => h ⟨q.1, by have := q.2; change m.val - 1 < 128 at this; have := q.1; change 1 ≤ m.val at this; omega⟩]

/-- The second layer of the reference on each allele. -/
theorem layer16_read (x0 x1 : FVec Ideal S16384x8x128 .f32) (w0 : FVec Ideal S8x8x3 .f32) (b0 : FVec Ideal S8 .f32) (w1 : FVec Ideal S8x8x3 .f32)
    (b1 : FVec Ideal S8 .f32) (w : FVec Ideal S16x16x3 .f32) (b : FVec Ideal S16 .f32) (n : Fin 4096) (f : Fin 16) (l : Fin 128) :
    val_main_v111 (F := Ideal) x0 x1 fours fours w0 b0 w1 b1 w b (ix3 n f l)
      = layer (fun c k => w (ix3 f c k)) (b (ix1 f)) (fun c l => val_main_v88 (F := Ideal) x0 x1 fours fours w0 b0 w1 b1 (ix3 n c l)) l := by
  simp only [val_main_v111_apply, val_main_v109_apply, val_main_v106_apply, val_main_v105_apply, val_main_v94_apply, val_main_v99_apply, val_main_v104_apply,
    val_main_v93_apply, val_main_v98_apply, val_main_v103_apply, val_main_v92_apply, val_main_v97_apply, val_main_v102_apply,
    val_main_v91_apply, val_main_v96_apply, val_main_v101_apply, val_main_v90_apply, val_main_v95_apply, val_main_v100_apply, val_main_v108_apply, val_main_v107_apply, val_main_v110_apply, val_main_cst_19_apply]
  refine Eq.trans ?_ (layer_of (fun c k => w (ix3 f c k)) (b (ix1 f)) _ l (fun c m => val_main_v89 (F := Ideal) x0 x1 fours fours w0 b0 w1 b1 (ix3 n c m)) fun c m => pad16_read x0 x1 w0 b0 w1 b1 n c m)
  have z : (FloatOps.ofBits (F := Ideal) .f32 0#32 : EReal) = 0 := Ideal.ofBits_zero_f32
  rw [z]
  generalize val_main_v89 (F := Ideal) x0 x1 fours fours w0 b0 w1 b1 = y
  have e0 : ∀ c : Fin 16, idx_main_v90 (idx_main_v91 (ridx_main_v93 (idx_main_v94 (ix3 n f l)) c)) = ix3 f c 0 := fun c => funext fun a => Fin.ext (match a with
    | ⟨0, _⟩ => by show (f.val * 16 + c.val) / 16 = f.val; omega
    | ⟨1, _⟩ => by show (f.val * 16 + c.val) / 1 % 16 = c.val; omega
    | ⟨2, _⟩ => rfl)
  have e1 : ∀ c : Fin 16, idx_main_v95 (idx_main_v96 (ridx_main_v98 (idx_main_v99 (ix3 n f l)) c)) = ix3 f c 1 := fun c => funext fun a => Fin.ext (match a with
    | ⟨0, _⟩ => by show (f.val * 16 + c.val) / 16 = f.val; omega
    | ⟨1, _⟩ => by show (f.val * 16 + c.val) / 1 % 16 = c.val; omega
    | ⟨2, _⟩ => rfl)
  have e2 : ∀ c : Fin 16, idx_main_v100 (idx_main_v101 (ridx_main_v103 (idx_main_v104 (ix3 n f l)) c)) = ix3 f c 2 := fun c => funext fun a => Fin.ext (match a with
    | ⟨0, _⟩ => by show (f.val * 16 + c.val) / 16 = f.val; omega
    | ⟨1, _⟩ => by show (f.val * 16 + c.val) / 1 % 16 = c.val; omega
    | ⟨2, _⟩ => rfl)
  have p0 : ∀ c : Fin 16, idx_main_v92 (lidx_main_v93 (idx_main_v94 (ix3 n f l)) c) = ix3 n c ⟨l.val, by omega⟩ := fun c => funext fun a => match a with
    | ⟨0, _⟩ => rfl | ⟨1, _⟩ => rfl | ⟨2, _⟩ => rfl
  have p1 : ∀ c : Fin 16, idx_main_v97 (lidx_main_v98 (idx_main_v99 (ix3 n f l)) c) = ix3 n c ⟨1 + l.val, by omega⟩ := fun c => funext fun a => match a with
    | ⟨0, _⟩ => rfl | ⟨1, _⟩ => rfl | ⟨2, _⟩ => rfl
  have p2 : ∀ c : Fin 16, idx_main_v102 (lidx_main_v103 (idx_main_v104 (ix3 n f l)) c) = ix3 n c ⟨2 + l.val, by omega⟩ := fun c => funext fun a => match a with
    | ⟨0, _⟩ => rfl | ⟨1, _⟩ => rfl | ⟨2, _⟩ => rfl
  have eb : idx_main_v107 (idx_main_v108 (ix3 n f l)) = ix1 f := funext fun a => match a with | ⟨0, _⟩ => rfl
  simp only [e0, e1, e2, p0, p1, p2, eb]
  rfl

/-- The reference's score of allele `a`. -/
theorem score_read (x0 x1 : FVec Ideal S16384x8x128 .f32) (w0 : FVec Ideal S8x8x3 .f32) (b0 : FVec Ideal S8 .f32) (w1 : FVec Ideal S8x8x3 .f32)
    (b1 : FVec Ideal S8 .f32) (w : FVec Ideal S16x16x3 .f32) (b wo : FVec Ideal S16 .f32) (bo : FVec Ideal S_ .f32) (a : Fin 4096) :
    val_main_v117 (F := Ideal) x0 x1 fours fours w0 b0 w1 b1 w b wo bo (ix1 a)
      = alleleScore (fun r c l => x0 (ix3 r c l)) (fun r c l => x1 (ix3 r c l)) (fun f c k => w0 (ix3 f c k)) (fun f => b0 (ix1 f))
          (fun f c k => w1 (ix3 f c k)) (fun f => b1 (ix1 f)) (fun f c k => w (ix3 f c k)) (fun f => b (ix1 f)) (fun f => wo (ix1 f)) (bo ix0) a := by
  simp only [val_main_v117_apply, val_main_v115_apply, val_main_v114_apply, val_main_v112_apply, val_main_v113_apply, val_main_v116_apply, val_main_cst_20_apply, val_main_cst_21_apply]
  have z : (FloatOps.ofBits (F := Ideal) .f32 0#32 : EReal) = 0 := Ideal.ofBits_zero_f32
  have n : (FloatOps.ofBits (F := Ideal) .f32 1124073472#32 : EReal) = ((128 : ℝ) : EReal) := Cert.KernelIdeal.Stage.bits_128
  rw [z, n]
  have e : ∀ (g : Fin 16) (l : Fin 128), idx_main_v112 (lidx_main_v115 (ix1 a) g) l = ix3 a g l := fun g l => funext fun c => match c with
    | ⟨0, _⟩ => rfl | ⟨1, _⟩ => rfl | ⟨2, _⟩ => rfl
  have ew : ∀ g : Fin 16, ridx_main_v115 (ix1 a) g = ix1 g := fun g => funext fun c => match c with | ⟨0, _⟩ => rfl
  have eo : idx_main_v116 (ix1 a) = ix0 := funext fun c => c.elim0
  simp only [e, ew, eo, layer16_read, joined_read, zero_add]
  rfl
end Cert.ReferenceIdeal.Stages
end
-- ==== Proof.RefAnswer.lean ====
module
public import proofs.«01_k».proof.Proof.RefScore

@[expose] public section
/-!
The reference's result: from the scores to the log-softmax over the four alleles of each site, when every count is four.
-/
set_option maxRecDepth 16384
set_option maxHeartbeats 4000000
noncomputable section
open Idealize.ShloMosaic hiding ix0 ix1 ix2 ix3 eq_ix1 eq_ix2 eq_ix3
open Idealize.ShloMosaic.Routing Idealize.ShloMosaic.ValueIdx
open Cert.ReferenceIdeal Cert.ReferenceIdeal.Read Cert.Spec
namespace Cert.ReferenceIdeal.Stages

/-- The maximum over all alleles, those of other sites masked by the least value, is the maximum over the site's four. -/
theorem masked_max (y : Fin 4096 → EReal) (s : Fin 1024) :
    Finset.univ.fold max ⊥ (fun x : Fin 4096 => if x.val / 4 = s.val then y x else ⊥) = top fun p => y ⟨s.val * 4 + p.val, by omega⟩ := by
  unfold top
  refine le_antisymm ?_ ?_
  · rw [Finset.fold_max_le]
    refine ⟨bot_le, fun x _ => ?_⟩
    split
    · next h =>
      rw [Finset.le_fold_max]
      exact Or.inr ⟨⟨x.val % 4, by omega⟩, Finset.mem_univ _, le_of_eq (congrArg y (Fin.ext (by dsimp only; omega)))⟩
    · exact bot_le
  · rw [Finset.fold_max_le]
    refine ⟨bot_le, fun p _ => ?_⟩
    rw [Finset.le_fold_max]
    refine Or.inr ⟨⟨s.val * 4 + p.val, by omega⟩, Finset.mem_univ _, ?_⟩
    rw [if_pos (by dsimp only; omega)]

/-- The mask: a select on the equality of two small numbers. -/
theorem select_eq (n m : Nat) (hn : n < 2 ^ 31) (hm : m < 2 ^ 31) (a b : EReal) :
    Scalar.select (IntOp.cmpi .eq (BitVec.ofNat 32 n) (BitVec.ofNat 32 m)) a b = if n = m then a else b := by
  have h : IntOp.cmpi .eq (BitVec.ofNat 32 n) (BitVec.ofNat 32 m) = BitVec.ofBool (decide (n = m)) := by
    refine congrArg BitVec.ofBool ?_
    rw [Bool.eq_iff_iff, beq_iff_eq, decide_eq_true_iff]
    constructor
    · intro e
      have e' := congrArg BitVec.toNat e
      rw [BitVec.toNat_ofNat, BitVec.toNat_ofNat] at e'
      omega
    · rintro rfl; rfl
  rw [h]
  by_cases e : n = m
  · rw [if_pos e, decide_eq_true e]; rfl
  · rw [if_neg e, decide_eq_false e]; rfl

/-- The greatest score of site `s`, as the reference's masked maximum over all alleles. -/
theorem top_read (x0 x1 : FVec Ideal S16384x8x128 .f32) (w0 : FVec Ideal S8x8x3 .f32) (b0 : FVec Ideal S8 .f32) (w1 : FVec Ideal S8x8x3 .f32)
    (b1 : FVec Ideal S8 .f32) (w : FVec Ideal S16x16x3 .f32) (b wo : FVec Ideal S16 .f32) (bo : FVec Ideal S_ .f32) (s : Fin 1024) :
    val_main_v144 (F := Ideal) x0 x1 fours fours fours w0 b0 w1 b1 w b wo bo (ix1 s)
      = top fun p => val_main_v117 (F := Ideal) x0 x1 fours fours w0 b0 w1 b1 w b wo bo (ix1 ⟨s.val * 4 + p.val, by omega⟩) := by
  unfold val_main_v144 val_main_v143 val_main_v141 val_main_call15_v1 val_main_v142 val_main_v139 val_main_v136
  generalize val_main_v117 (F := Ideal) x0 x1 fours fours w0 b0 w1 b1 w b wo bo = y
  generalize hk : val_main_v135 (F := Ideal) fours = k
  pointwise [val_main_call15_v2, val_main_call15_v0, val_main_cst_29, val_main_cst_30, val_main_v140, val_main_v138, val_main_v137]
  have hb : (Ideal.ofBits .f32 4286578688#32) = ⊥ := Cert.KernelIdeal.Stage.bits_bot
  refine Eq.trans ?_ (masked_max (fun x => y (ix1 x)) s)
  rw [hb]
  refine congrArg (fun f => Finset.univ.fold max ⊥ f) (funext fun x => ?_)
  refine Eq.trans ?_ (select_eq (x.val / 4) s.val (by omega) (by omega) _ _)
  have hx : k (ix1 x) = BitVec.ofNat 32 (x.val / 4) := by rw [← hk]; exact Ids.segment_site x
  rw [← hx, ← hb]
  rfl

/-- The site column the gathers read, after the wrap of negative places. -/
theorem site_col (i : Fin 4096) : val_main_v150 (F := Ideal) fours (ix2 i (0 : Fin 1)) = BitVec.ofNat 32 (i.val / 4) := by
  unfold val_main_v150
  rw [bcCol]
  unfold val_main_v149 val_main_v146
  exact Ids.wrap _ _ (i.val / 4) (Ids.segment_site i) (by omega)

/-- A value per site, taken at each allele's site. -/
theorem at_site (y : FVec Ideal S1024 .f32) (i : Fin 4096) :
    Host.gather gather_S1024_S4096x1_S4096_n_0_n_n_0_1_1 y (val_main_v150 (F := Ideal) fours) (ix1 i) = y (ix1 ⟨i.val / 4, by omega⟩) :=
  gather_take1 (N := 1024) (n := 4096) gather_S1024_S4096x1_S4096_n_0_n_n_0_1_1 rfl rfl rfl rfl _ _ i ⟨i.val / 4, by omega⟩ (site_col i) (by omega)

/-- A float scatter that adds scalars at zero, with the words `i / 4`: each site gets the sum over its four alleles. -/
theorem site_sum (z : FVec Ideal S1024 .f32) (hz : ∀ k, z k = 0) (idx : IVec S4096x1 32) (u : FVec Ideal S4096 .f32)
    (hidx : ∀ i : Fin 4096, idx (ix2 i (0 : Fin 1)) = BitVec.ofNat 32 (i.val / 4)) (s : Fin 1024) :
    Host.scatterAdd scatter_S1024_S4096x1_S4096_n_0_0_1 z idx u (ix1 s) = ∑ p : Fin 4, u (ix1 ⟨s.val * 4 + p.val, by omega⟩) := by
  show z (ix1 s) + ∑ j ∈ Finset.univ.filter (fun j => scatter_S1024_S4096x1_S4096_n_0_0_1.resultIdx? j idx = some (ix1 s)), u j = _
  have hs : ∀ j : S4096.Idx, scatter_S1024_S4096x1_S4096_n_0_0_1.start j idx 0 = (((j 0).val / 4 : Nat) : Int) := fun j => by
    have hj : (j 0).val < 4096 := (j 0).isLt
    unfold ScatterDims.start
    rw [dif_pos (by decide)]
    rw [← StableHlo.Predicate.toInt_ofNat_small ((j 0).val / 4) (by omega), ← hidx ⟨(j 0).val, hj⟩]
    exact congrArg (fun z => (idx z).toInt) (funext fun b => match b with | ⟨0, _⟩ => rfl | ⟨1, _⟩ => rfl)
  have key : ∀ j : S4096.Idx, scatter_S1024_S4096x1_S4096_n_0_0_1.resultIdx? j idx = some (ix1 s) ↔ (j 0).val / 4 = s.val := fun j => by
    rw [resultIdx?_ix1, hs]
    show ((_ : Nat) : Int) + ((0 : Nat) : Int) = (s.val : Int) ↔ _
    omega
  rw [hz, zero_add]
  refine (Finset.sum_nbij' (i := fun p : Fin 4 => (ix1 ⟨s.val * 4 + p.val, by omega⟩ : S4096.Idx)) (j := fun j => (⟨(j 0).val % 4, by omega⟩ : Fin 4))
    ?_ ?_ ?_ ?_ ?_).symm
  · intro p _
    rw [Finset.mem_filter, key]
    refine ⟨Finset.mem_univ _, ?_⟩
    show (s.val * 4 + p.val) / 4 = s.val
    omega
  · intro j _; exact Finset.mem_univ _
  · intro p _
    refine Fin.ext ?_
    show (s.val * 4 + p.val) % 4 = p.val
    omega
  · intro j hj
    rw [Finset.mem_filter, key] at hj
    funext b
    refine Fin.ext ?_
    match b with
    | ⟨0, _⟩ => show s.val * 4 + (j 0).val % 4 = (j 0).val; omega
  · intro p _; rfl

/-- The second column of site numbers is the first again. -/
theorem same_col : val_main_v163 (F := Ideal) = val_main_v150 (F := Ideal) := rfl

/-- The shifted scores: each less its site's greatest. -/
theorem shifted_read (x0 x1 : FVec Ideal S16384x8x128 .f32) (w0 : FVec Ideal S8x8x3 .f32) (b0 : FVec Ideal S8 .f32) (w1 : FVec Ideal S8x8x3 .f32)
    (b1 : FVec Ideal S8 .f32) (w : FVec Ideal S16x16x3 .f32) (b wo : FVec Ideal S16 .f32) (bo : FVec Ideal S_ .f32) (i : Fin 4096) :
    val_main_v152 (F := Ideal) x0 x1 fours fours fours w0 b0 w1 b1 w b wo bo (ix1 i)
      = val_main_v117 (F := Ideal) x0 x1 fours fours w0 b0 w1 b1 w b wo bo (ix1 i)
        - top fun p => val_main_v117 (F := Ideal) x0 x1 fours fours w0 b0 w1 b1 w b wo bo (ix1 ⟨i.val / 4 * 4 + p.val, by omega⟩) := by
  rw [val_main_v152_apply]
  unfold val_main_v151
  rw [at_site, top_read]
  rfl

/-- The result of the reference at allele `i`. -/
theorem answer_read (x0 x1 : FVec Ideal S16384x8x128 .f32) (w0 : FVec Ideal S8x8x3 .f32) (b0 : FVec Ideal S8 .f32) (w1 : FVec Ideal S8x8x3 .f32)
    (b1 : FVec Ideal S8 .f32) (w : FVec Ideal S16x16x3 .f32) (b wo : FVec Ideal S16 .f32) (bo : FVec Ideal S_ .f32) (i : Fin 4096) :
    val_main_v165 (F := Ideal) x0 x1 fours fours fours w0 b0 w1 b1 w b wo bo (ix1 i)
      = answer (fun a => val_main_v117 (F := Ideal) x0 x1 fours fours w0 b0 w1 b1 w b wo bo (ix1 a)) i := by
  rw [val_main_v165_apply]
  have hsum : val_main_v164 (F := Ideal) x0 x1 fours fours fours w0 b0 w1 b1 w b wo bo (ix1 i)
      = Ideal.log (∑ p : Fin 4, Ideal.exp (val_main_v152 (F := Ideal) x0 x1 fours fours fours w0 b0 w1 b1 w b wo bo (ix1 ⟨i.val / 4 * 4 + p.val, by omega⟩))) := by
    unfold val_main_v164
    rw [same_col, at_site, val_main_v157_apply]
    have hl : ∀ t : EReal, (FloatOps.hostUnary (F := Ideal) .log (φ := .f32) t : EReal) = Ideal.log t := fun t => rfl
    refine (hl _).trans ?_
    unfold val_main_v156
    have hcol : ∀ i : Fin 4096, val_main_v155 (F := Ideal) fours (ix2 i (0 : Fin 1)) = BitVec.ofNat 32 (i.val / 4) := fun i => by
      unfold val_main_v155
      rw [bcCol]
      exact Ids.segment_site i
    have hz : ∀ k, val_main_v154 (F := Ideal) k = (0 : EReal) := fun k => Ideal.ofBits_zero_f32
    rw [site_sum _ hz _ _ hcol ⟨i.val / 4, by omega⟩]
    rfl
  rw [hsum]
  simp only [shifted_read]
  generalize val_main_v117 (F := Ideal) x0 x1 fours fours w0 b0 w1 b1 w b wo bo = y
  unfold answer logsoft
  have e : (⟨i.val / 4 * 4 + i.val % 4, by omega⟩ : Fin 4096) = i := Fin.ext (by dsimp only; omega)
  have q : ∀ p : Fin 4, (i.val / 4 * 4 + p.val) / 4 * 4 = i.val / 4 * 4 := fun p => by omega
  simp only [e, q]
  rfl

end Cert.ReferenceIdeal.Stages
end
-- ==== Proof.Algebra.lean ====
module
public import proofs.«01_k».proof.Defs
public import proofs.«01_k».proof.Proof.Value
public import proofs.«01_k».proof.Proof.RefScore
public import proofs.«01_k».proof.Proof.RefAnswer
public import proofs.«01_k».proof.Proof.Gen.KernelIdeal.Frame
public import proofs.«01_k».proof.Proof.Gen.ReferenceIdeal.Run
public import proofs.«01_k».proof.Proof.Gen.ReferenceIdeal.Read
public import Idealize.ShloMosaic.Lib.ReduceAll
public import Idealize.ShloMosaic.Lib.Claim

@[expose] public section
/-!
The two programs compared: when every count is four, both end holding `Spec.answer` of the same scores.
-/
set_option maxRecDepth 16384
noncomputable section
open Idealize.ShloMosaic Idealize.ShloMosaic.TcCoe Idealize.SL.Sem
open Cert.Spec
namespace Cert.Algebra

/-- A word comparing equal to another is that word. -/
theorem eq_of_mark (a b : BitVec 32) (h : IntOp.cmpi .eq a b = 1#1) : a = b := by
  by_contra hne
  have hf : (a == b) = false := by simpa using hne
  change BitVec.ofBool (a == b) = 1#1 at h
  rw [hf] at h
  exact absurd h (by decide)

/-- Two marks conjoined to one are both one. -/
theorem marks_and (a b : BitVec 1) (h : a &&& b = 1#1) : a = 1#1 ∧ b = 1#1 := by
  revert a b; decide

/-- An array of no axis has one index. -/
instance : Subsingleton (Cert.Pre_as_drawn.S_).Idx := ⟨fun a b => funext fun k => k.elim0⟩

/-- The precondition says that every count is four. -/
theorem counts [Cert.Pre_as_drawn.Facts] (x0 x1 x2 x3 x4 x5 x6 x7 x8 x9 x10 x11 x12)
    (h : Cert.Pre_as_drawn.fn (F := Ideal) x0 x1 x2 x3 x4 x5 x6 x7 x8 x9 x10 x11 x12 = fun _ => 1#1) :
    x2 = (fun _ => 4#32) ∧ x3 = (fun _ => 4#32) ∧ x4 = (fun _ => 4#32) := by
  have h0 := congrFun h (fun k => k.elim0)
  unfold Cert.Pre_as_drawn.fn at h0
  obtain ⟨h1, h4⟩ := marks_and _ _ h0
  obtain ⟨h2, h3⟩ := marks_and _ _ h1
  exact ⟨funext fun i => eq_of_mark _ _ (Host.reduce_andi_all _ _ _ _ _ h2 i),
    funext fun i => eq_of_mark _ _ (Host.reduce_andi_all _ _ _ _ _ h3 i),
    funext fun i => eq_of_mark _ _ (Host.reduce_andi_all _ _ _ _ _ h4 i)⟩

section kernel
open Cert.KernelIdeal Cert.KernelIdeal.Gen Cert.KernelIdeal.Value

/-- The flat reshape of the kernel's array reads block `i / 256`, column `i % 256`. -/
theorem flat (x : FVec Ideal S16x1x256 .f32) (i : Fin 4096) :
    shapeCast S4096 x shapeCasts_S16x1x256_S4096 (ix1 i)
      = x (ix3 ⟨i.val / 256, by omega⟩ 0 ⟨i.val % 256, by omega⟩) := by
  pointwise

variable (m : (ℓ : Loc nD τ sig) → Buf (Elt Ideal) ℓ)

/-- What the host line after the kernel leaves: the kernel's array, flat. -/
theorem tail_array (c : Dev nD) :
    Pipeline.afterTail₀ cfgs (dats m) 0 (V0 m) [hostOps1] c main_v96
      = shapeCast S4096 ((dats m 0 c).arrAt 16 (cfgs 0).N : FVec Ideal S16x1x256 .f32) shapeCasts_S16x1x256_S4096 := by
  unfold Pipeline.afterTail₀
  rw [show ([hostOps1] : List (List (HloOp τ sig (Elt Ideal)))).flatten = hostOps1 from rfl]
  after_results
  erw [Pipeline.withArrays_arr (cfgs 0).spec (by decide) c (V0 m c) _ 16]
  rfl

/-- That array is, at every allele, the answer over the scores. -/
theorem tail_result (c : Dev nD) (i : Fin 4096) :
    shapeCast S4096 ((dats m 0 c).arrAt 16 (cfgs 0).N : FVec Ideal S16x1x256 .f32) shapeCasts_S16x1x256_S4096 (ix1 i)
      = answer (scores m c) i := by
  rw [flat, final]
  exact congrArg (answer (scores m c)) (Fin.ext (by
    show i.val / 256 * 256 + i.val % 256 = i.val
    omega))
end kernel

section reference
open Cert.ReferenceIdeal Cert.ReferenceIdeal.Read Cert.ReferenceIdeal.Stages

/-- The reference's result over the arguments of the kernel's memory, every count four: the answer over the same scores. -/
theorem reference_result (m : (ℓ : Loc Cert.KernelIdeal.nD Cert.KernelIdeal.τ Cert.KernelIdeal.sig) → Buf (Elt Ideal) ℓ)
    (c : Dev Cert.KernelIdeal.nD) (i : Fin 4096) :
    val_main_v165 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) fours fours fours
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)) (ix1 i)
      = answer (Cert.KernelIdeal.Value.scores m c) i := by
  refine (answer_read _ _ _ _ _ _ _ _ _ _ i).trans (congrArg (fun f => answer f i) (funext fun a => ?_))
  exact (score_read _ _ _ _ _ _ _ _ _ _ a).trans rfl
end reference

attribute [local instance] Cert.KernelIdeal.Gen.facts Cert.ReferenceIdeal.Gen.facts

/-- Launched from memories that agree on the arguments, every count four, the two programs leave the same array. -/
theorem agree [hPre : Cert.Pre_as_drawn.Facts] : Cert.algebraic_KernelIdeal_ReferenceIdeal_pre_as_drawn := by
  intro m g m' g' hpre hagree
  refine ⟨fun c => (fun i : Cert.KernelIdeal.S4096.Idx => answer (Cert.KernelIdeal.Value.scores m c) (i 0)), ?_, ?_⟩
  · refine θ_run_mono (θ_run_and (Cert.KernelIdeal.Gen.run_main m g) (Cert.KernelIdeal.Gen.unchanged m g)) ?_
    intro r h c
    refine ⟨((h.1 c).2 Cert.KernelIdeal.main_v96 (by decide)).trans ((tail_array m c).trans (funext fun i => ?_)), h.2 c⟩
    obtain ⟨a, rfl⟩ : ∃ a : Fin 4096, i = ix1 a := ⟨i 0, eq_ix1 i⟩
    exact tail_result m c a
  · refine θ_run_mono (Cert.ReferenceIdeal.Value.run m' g') ?_
    intro r h c
    refine ⟨((h c).1.trans (Cert.ReferenceIdeal.Read.val_main_v165_eq (StableHlo.launchContents m' c))).trans (funext fun i => ?_), (h c).2⟩
    obtain ⟨a, rfl⟩ : ∃ a : Fin 4096, i = ix1 a := ⟨i 0, eq_ix1 i⟩
    obtain ⟨c2, c3, c4⟩ := counts _ _ _ _ _ _ _ _ _ _ _ _ _ (hpre c)
    obtain ⟨h0, h1, h2, h3, h4, h5, h6, h7, h8, h9, h10, h11, h12⟩ := hagree c
    repeat rw [StableHlo.launchContents_devRef]
    rw [h0, h1, h2, h3, h4, h5, h6, h7, h8, h9, h10, h11, h12, c2, c3, c4]
    exact reference_result m c a

end Cert.Algebra
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebra
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The side conditions of the precondition's operations: the extents broadcast and reduced are the ones it names. -/
theorem drawnFacts : Cert.Pre_as_drawn.Facts where
  bcast_S_S1024 := by decide
  reducesTo_S1024_S_d0 := by decide
  h_S_ := by decide
  bcast_S_S4096 := by decide
  reducesTo_S4096_S_d0 := by decide

/-- The reference program runs to its end, changes no argument and leaves every semaphore at zero. -/
theorem frameRef : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, drawnFacts,
  fun m ρ _ => Cert.Kernel.Gen.frame m ρ, fun m ρ _ => Cert.KernelIdeal.Gen.frame m ρ, fun m ρ _ => Cert.KernelIdeal.Gen.frame m ρ,
  frameRef, fun m ρ _ => frameRef m ρ trivial, trivial,
  Cert.Algebra.agree (hPre := drawnFacts)⟩

end Cert.Proof

end
